-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x384x224x224 : Shape := ⟨4, ![16, 384, 224, 224]⟩
abbrev S6144x224x224 : Shape := ⟨3, ![6144, 224, 224]⟩
abbrev S224x256 : Shape := ⟨2, ![224, 256]⟩
abbrev S_ : Shape := ⟨0, ![]⟩
abbrev S6144x112x112 : Shape := ⟨3, ![6144, 112, 112]⟩
abbrev S128x32x224 : Shape := ⟨3, ![128, 32, 224]⟩
abbrev S128x16x112 : Shape := ⟨3, ![128, 16, 112]⟩
abbrev S128x112 : Shape := ⟨2, ![128, 112]⟩
abbrev S128x1x224 : Shape := ⟨3, ![128, 1, 224]⟩
abbrev S128x224 : Shape := ⟨2, ![128, 224]⟩
abbrev S128x256 : Shape := ⟨2, ![128, 256]⟩
abbrev S128x1x112 : Shape := ⟨3, ![128, 1, 112]⟩
abbrev S16x384x112x112 : Shape := ⟨4, ![16, 384, 112, 112]⟩

abbrev nBuf : Space → Nat
  | .hbm => 19
  | .vmem => 5
  | .smem => 0
  | _ => 0

abbrev bufTy : (tb : Table) → Fin (tcTables nBuf tb) → BufTy
  | .hbm, ⟨0, _⟩ => ⟨S16x384x224x224, .f32⟩
  | .hbm, ⟨1, _⟩ => ⟨S6144x224x224, .f32⟩
  | .hbm, ⟨2, _⟩ => ⟨S224x256, .i32⟩
  | .hbm, ⟨3, _⟩ => ⟨S224x256, .i32⟩
  | .hbm, ⟨4, _⟩ => ⟨S_, .i32⟩
  | .hbm, ⟨5, _⟩ => ⟨S224x256, .i32⟩
  | .hbm, ⟨6, _⟩ => ⟨S224x256, .i32⟩
  | .hbm, ⟨7, _⟩ => ⟨S224x256, .i1⟩
  | .hbm, ⟨8, _⟩ => ⟨S_, .i32⟩
  | .hbm, ⟨9, _⟩ => ⟨S224x256, .i32⟩
  | .hbm, ⟨10, _⟩ => ⟨S224x256, .i32⟩
  | .hbm, ⟨11, _⟩ => ⟨S_, .i32⟩
  | .hbm, ⟨12, _⟩ => ⟨S224x256, .i32⟩
  | .hbm, ⟨13, _⟩ => ⟨S224x256, .i32⟩
  | .hbm, ⟨14, _⟩ => ⟨S224x256, .i1⟩
  | .hbm, ⟨15, _⟩ => ⟨S224x256, .i1⟩
  | .hbm, ⟨16, _⟩ => ⟨S224x256, .f32⟩
  | .hbm, ⟨17, _⟩ => ⟨S6144x112x112, .f32⟩
  | .hbm, ⟨18, _⟩ => ⟨S16x384x112x112, .f32⟩
  | .local _ .vmem, ⟨0, _⟩ => ⟨S128x32x224, .f32⟩
  | .local _ .vmem, ⟨1, _⟩ => ⟨S128x32x224, .f32⟩
  | .local _ .vmem, ⟨2, _⟩ => ⟨S224x256, .f32⟩
  | .local _ .vmem, ⟨3, _⟩ => ⟨S128x16x112, .f32⟩
  | .local _ .vmem, ⟨4, _⟩ => ⟨S128x16x112, .f32⟩
  | _, _ => ⟨S16x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![48, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x32x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S224x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x16x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S16x384x224x224 : Shape := ⟨4, ![16, 384, 224, 224]⟩
abbrev S16x384x112x2x112x2 : Shape := ⟨6, ![16, 384, 112, 2, 112, 2]⟩
abbrev S16x384x112x112x2x2 : Shape := ⟨6, ![16, 384, 112, 112, 2, 2]⟩
abbrev S16x384x112x112x4 : Shape := ⟨5, ![16, 384, 112, 112, 4]⟩
abbrev S_ : Shape := ⟨0, ![]⟩
abbrev S1 : Shape := ⟨1, ![1]⟩
abbrev S2 : Shape := ⟨1, ![2]⟩
abbrev S1x1x1x1x1 : Shape := ⟨5, ![1, 1, 1, 1, 1]⟩
abbrev S16x384x112x112 : Shape := ⟨4, ![16, 384, 112, 112]⟩
abbrev S16x384x112x112x1 : Shape := ⟨5, ![16, 384, 112, 112, 1]⟩
abbrev S16x384x112x112x1x1 : Shape := ⟨6, ![16, 384, 112, 112, 1, 1]⟩
abbrev S1x1x1x1x1x1 : Shape := ⟨6, ![1, 1, 1, 1, 1, 1]⟩

abbrev nBuf : Space → Nat
  | .hbm => 330
  | .vmem => 0
  | .smem => 0
  | _ => 0

abbrev hbmTy0_0 (i : Nat) : BufTy := match i % 128 with
  | 0 => ⟨S16x384x224x224, .f32⟩
  | 1 => ⟨S16x384x112x2x112x2, .f32⟩
  | 2 => ⟨S16x384x112x112x2x2, .f32⟩
  | 3 => ⟨S16x384x112x112x4, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1x1x1x1, .f32⟩
  | 19 => ⟨S1x1x1x1x1, .f32⟩
  | 20 => ⟨S1, .i32⟩
  | 21 => ⟨S_, .i32⟩
  | 22 => ⟨S1, .i32⟩
  | 23 => ⟨S_, .i32⟩
  | 24 => ⟨S16x384x112x112x4, .i64⟩
  | 25 => ⟨S16x384x112x112x4, .i64⟩
  | 26 => ⟨S16x384x112x112x4, .i64⟩
  | 27 => ⟨S16x384x112x112x4, .i64⟩
  | 28 => ⟨S16x384x112x112x4, .i64⟩
  | 29 => ⟨S_, .i64⟩
  | 30 => ⟨S16x384x112x112x4, .i64⟩
  | 31 => ⟨S16x384x112x112x4, .i64⟩
  | 32 => ⟨S_, .i64⟩
  | 33 => ⟨S16x384x112x112x4, .i64⟩
  | 34 => ⟨S16x384x112x112x4, .i64⟩
  | 35 => ⟨S_, .i64⟩
  | 36 => ⟨S16x384x112x112x4, .i64⟩
  | 37 => ⟨S16x384x112x112x4, .i64⟩
  | 38 => ⟨S_, .i64⟩
  | 39 => ⟨S16x384x112x112x4, .i64⟩
  | 40 => ⟨S16x384x112x112x4, .i64⟩
  | 41 => ⟨S_, .i64⟩
  | 42 => ⟨S16x384x112x112x4, .i64⟩
  | 43 => ⟨S16x384x112x112x4, .i64⟩
  | 44 => ⟨S16x384x112x112x4, .i64⟩
  | 45 => ⟨S16x384x112x112x4, .i64⟩
  | 46 => ⟨S16x384x112x112x4, .i64⟩
  | 47 => ⟨S16x384x112x112x4, .i64⟩
  | 48 => ⟨S_, .i64⟩
  | 49 => ⟨S16x384x112x112x4, .i64⟩
  | 50 => ⟨S16x384x112x112x4, .i64⟩
  | 51 => ⟨S16x384x112x112x4, .i32⟩
  | 52 => ⟨S16x384x112x112x4, .i32⟩
  | 53 => ⟨S_, .i32⟩
  | 54 => ⟨S_, .i32⟩
  | 55 => ⟨S_, .i32⟩
  | 56 => ⟨S16x384x112x112x4, .i32⟩
  | 57 => ⟨S16x384x112x112x4, .i32⟩
  | 58 => ⟨S16x384x112x112x4, .i32⟩
  | 59 => ⟨S16x384x112x112x4, .i32⟩
  | 60 => ⟨S16x384x112x112x4, .i32⟩
  | 61 => ⟨S_, .i32⟩
  | 62 => ⟨S16x384x112x112x4, .i32⟩
  | 63 => ⟨S16x384x112x112x4, .i32⟩
  | 64 => ⟨S_, .i32⟩
  | 65 => ⟨S16x384x112x112x4, .i32⟩
  | 66 => ⟨S16x384x112x112x4, .i32⟩
  | 67 => ⟨S16x384x112x112x4, .i32⟩
  | 68 => ⟨S16x384x112x112x4, .i32⟩
  | 69 => ⟨S16x384x112x112x4, .i32⟩
  | 70 => ⟨S_, .i32⟩
  | 71 => ⟨S16x384x112x112x4, .i32⟩
  | 72 => ⟨S16x384x112x112x4, .i32⟩
  | 73 => ⟨S_, .i32⟩
  | 74 => ⟨S16x384x112x112x4, .i32⟩
  | 75 => ⟨S16x384x112x112x4, .i32⟩
  | 76 => ⟨S16x384x112x112x4, .i32⟩
  | 77 => ⟨S16x384x112x112x4, .i32⟩
  | 78 => ⟨S16x384x112x112x4, .i32⟩
  | 79 => ⟨S_, .i32⟩
  | 80 => ⟨S16x384x112x112x4, .i32⟩
  | 81 => ⟨S16x384x112x112x4, .i32⟩
  | 82 => ⟨S_, .i32⟩
  | 83 => ⟨S16x384x112x112x4, .i32⟩
  | 84 => ⟨S16x384x112x112x4, .i32⟩
  | 85 => ⟨S16x384x112x112x4, .i32⟩
  | 86 => ⟨S16x384x112x112x4, .i32⟩
  | 87 => ⟨S16x384x112x112x4, .i32⟩
  | 88 => ⟨S_, .i32⟩
  | 89 => ⟨S16x384x112x112x4, .i32⟩
  | 90 => ⟨S16x384x112x112x4, .i32⟩
  | 91 => ⟨S_, .i32⟩
  | 92 => ⟨S16x384x112x112x4, .i32⟩
  | 93 => ⟨S16x384x112x112x4, .i32⟩
  | 94 => ⟨S16x384x112x112x4, .i32⟩
  | 95 => ⟨S16x384x112x112x4, .i32⟩
  | 96 => ⟨S16x384x112x112x4, .i32⟩
  | 97 => ⟨S16x384x112x112x4, .i32⟩
  | 98 => ⟨S16x384x112x112x4, .i32⟩
  | 99 => ⟨S16x384x112x112x4, .i32⟩
  | 100 => ⟨S_, .i32⟩
  | 101 => ⟨S16x384x112x112x4, .i32⟩
  | 102 => ⟨S16x384x112x112x4, .i32⟩
  | 103 => ⟨S16x384x112x112x4, .i32⟩
  | 104 => ⟨S_, .i32⟩
  | 105 => ⟨S16x384x112x112x4, .i32⟩
  | 106 => ⟨S16x384x112x112x4, .i32⟩
  | 107 => ⟨S_, .i32⟩
  | 108 => ⟨S16x384x112x112x4, .i32⟩
  | 109 => ⟨S16x384x112x112x4, .i32⟩
  | 110 => ⟨S16x384x112x112x4, .i32⟩
  | 111 => ⟨S16x384x112x112x4, .i32⟩
  | 112 => ⟨S16x384x112x112x4, .i32⟩
  | 113 => ⟨S_, .i32⟩
  | 114 => ⟨S16x384x112x112x4, .i32⟩
  | 115 => ⟨S16x384x112x112x4, .i32⟩
  | 116 => ⟨S_, .i32⟩
  | 117 => ⟨S16x384x112x112x4, .i32⟩
  | 118 => ⟨S16x384x112x112x4, .i32⟩
  | 119 => ⟨S16x384x112x112x4, .i32⟩
  | 120 => ⟨S16x384x112x112x4, .i32⟩
  | 121 => ⟨S16x384x112x112x4, .i32⟩
  | 122 => ⟨S_, .i32⟩
  | 123 => ⟨S16x384x112x112x4, .i32⟩
  | 124 => ⟨S16x384x112x112x4, .i32⟩
  | 125 => ⟨S_, .i32⟩
  | 126 => ⟨S16x384x112x112x4, .i32⟩
  | 127 => ⟨S16x384x112x112x4, .i32⟩
  | _ => ⟨S16x384x224x224, .f32⟩

abbrev hbmTy0_1 (i : Nat) : BufTy := match i % 128 with
  | 0 => ⟨S16x384x112x112x4, .i32⟩
  | 1 => ⟨S16x384x112x112x4, .i32⟩
  | 2 => ⟨S16x384x112x112x4, .i32⟩
  | 3 => ⟨S_, .i32⟩
  | 4 => ⟨S16x384x112x112x4, .i32⟩
  | 5 => ⟨S16x384x112x112x4, .i32⟩
  | 6 => ⟨S_, .i32⟩
  | 7 => ⟨S16x384x112x112x4, .i32⟩
  | 8 => ⟨S16x384x112x112x4, .i32⟩
  | 9 => ⟨S16x384x112x112x4, .i32⟩
  | 10 => ⟨S16x384x112x112x4, .i32⟩
  | 11 => ⟨S16x384x112x112x4, .i32⟩
  | 12 => ⟨S16x384x112x112x4, .i32⟩
  | 13 => ⟨S16x384x112x112x4, .i32⟩
  | 14 => ⟨S16x384x112x112x4, .i32⟩
  | 15 => ⟨S_, .i32⟩
  | 16 => ⟨S16x384x112x112x4, .i32⟩
  | 17 => ⟨S16x384x112x112x4, .i32⟩
  | 18 => ⟨S16x384x112x112x4, .i32⟩
  | 19 => ⟨S_, .i32⟩
  | 20 => ⟨S16x384x112x112x4, .i32⟩
  | 21 => ⟨S16x384x112x112x4, .i32⟩
  | 22 => ⟨S_, .i32⟩
  | 23 => ⟨S16x384x112x112x4, .i32⟩
  | 24 => ⟨S16x384x112x112x4, .i32⟩
  | 25 => ⟨S16x384x112x112x4, .i32⟩
  | 26 => ⟨S16x384x112x112x4, .i32⟩
  | 27 => ⟨S16x384x112x112x4, .i32⟩
  | 28 => ⟨S_, .i32⟩
  | 29 => ⟨S16x384x112x112x4, .i32⟩
  | 30 => ⟨S16x384x112x112x4, .i32⟩
  | 31 => ⟨S_, .i32⟩
  | 32 => ⟨S16x384x112x112x4, .i32⟩
  | 33 => ⟨S16x384x112x112x4, .i32⟩
  | 34 => ⟨S16x384x112x112x4, .i32⟩
  | 35 => ⟨S16x384x112x112x4, .i32⟩
  | 36 => ⟨S16x384x112x112x4, .i32⟩
  | 37 => ⟨S_, .i32⟩
  | 38 => ⟨S16x384x112x112x4, .i32⟩
  | 39 => ⟨S16x384x112x112x4, .i32⟩
  | 40 => ⟨S_, .i32⟩
  | 41 => ⟨S16x384x112x112x4, .i32⟩
  | 42 => ⟨S16x384x112x112x4, .i32⟩
  | 43 => ⟨S16x384x112x112x4, .i32⟩
  | 44 => ⟨S16x384x112x112x4, .i32⟩
  | 45 => ⟨S16x384x112x112x4, .i32⟩
  | 46 => ⟨S_, .i32⟩
  | 47 => ⟨S16x384x112x112x4, .i32⟩
  | 48 => ⟨S16x384x112x112x4, .i32⟩
  | 49 => ⟨S_, .i32⟩
  | 50 => ⟨S16x384x112x112x4, .i32⟩
  | 51 => ⟨S16x384x112x112x4, .i32⟩
  | 52 => ⟨S16x384x112x112x4, .i32⟩
  | 53 => ⟨S16x384x112x112x4, .i32⟩
  | 54 => ⟨S16x384x112x112x4, .i32⟩
  | 55 => ⟨S16x384x112x112x4, .i32⟩
  | 56 => ⟨S16x384x112x112x4, .i32⟩
  | 57 => ⟨S16x384x112x112x4, .i32⟩
  | 58 => ⟨S_, .i32⟩
  | 59 => ⟨S16x384x112x112x4, .i32⟩
  | 60 => ⟨S16x384x112x112x4, .i32⟩
  | 61 => ⟨S16x384x112x112x4, .i32⟩
  | 62 => ⟨S_, .i32⟩
  | 63 => ⟨S16x384x112x112x4, .i32⟩
  | 64 => ⟨S16x384x112x112x4, .i32⟩
  | 65 => ⟨S_, .i32⟩
  | 66 => ⟨S16x384x112x112x4, .i32⟩
  | 67 => ⟨S16x384x112x112x4, .i32⟩
  | 68 => ⟨S16x384x112x112x4, .i32⟩
  | 69 => ⟨S16x384x112x112x4, .i32⟩
  | 70 => ⟨S16x384x112x112x4, .i32⟩
  | 71 => ⟨S_, .i32⟩
  | 72 => ⟨S16x384x112x112x4, .i32⟩
  | 73 => ⟨S16x384x112x112x4, .i32⟩
  | 74 => ⟨S_, .i32⟩
  | 75 => ⟨S16x384x112x112x4, .i32⟩
  | 76 => ⟨S16x384x112x112x4, .i32⟩
  | 77 => ⟨S16x384x112x112x4, .i32⟩
  | 78 => ⟨S16x384x112x112x4, .i32⟩
  | 79 => ⟨S16x384x112x112x4, .i32⟩
  | 80 => ⟨S_, .i32⟩
  | 81 => ⟨S16x384x112x112x4, .i32⟩
  | 82 => ⟨S16x384x112x112x4, .i32⟩
  | 83 => ⟨S_, .i32⟩
  | 84 => ⟨S16x384x112x112x4, .i32⟩
  | 85 => ⟨S16x384x112x112x4, .i32⟩
  | 86 => ⟨S16x384x112x112x4, .i32⟩
  | 87 => ⟨S16x384x112x112x4, .i32⟩
  | 88 => ⟨S16x384x112x112x4, .i32⟩
  | 89 => ⟨S_, .i32⟩
  | 90 => ⟨S16x384x112x112x4, .i32⟩
  | 91 => ⟨S16x384x112x112x4, .i32⟩
  | 92 => ⟨S_, .i32⟩
  | 93 => ⟨S16x384x112x112x4, .i32⟩
  | 94 => ⟨S16x384x112x112x4, .i32⟩
  | 95 => ⟨S16x384x112x112x4, .i32⟩
  | 96 => ⟨S16x384x112x112x4, .i32⟩
  | 97 => ⟨S16x384x112x112x4, .i32⟩
  | 98 => ⟨S16x384x112x112x4, .i32⟩
  | 99 => ⟨S16x384x112x112x4, .i32⟩
  | 100 => ⟨S16x384x112x112x4, .i32⟩
  | 101 => ⟨S_, .i32⟩
  | 102 => ⟨S16x384x112x112x4, .i32⟩
  | 103 => ⟨S16x384x112x112x4, .i32⟩
  | 104 => ⟨S16x384x112x112x4, .i32⟩
  | 105 => ⟨S_, .i32⟩
  | 106 => ⟨S16x384x112x112x4, .i32⟩
  | 107 => ⟨S16x384x112x112x4, .i32⟩
  | 108 => ⟨S_, .i32⟩
  | 109 => ⟨S16x384x112x112x4, .i32⟩
  | 110 => ⟨S16x384x112x112x4, .i32⟩
  | 111 => ⟨S16x384x112x112x4, .i32⟩
  | 112 => ⟨S16x384x112x112x4, .i32⟩
  | 113 => ⟨S16x384x112x112x4, .i32⟩
  | 114 => ⟨S_, .i32⟩
  | 115 => ⟨S16x384x112x112x4, .i32⟩
  | 116 => ⟨S16x384x112x112x4, .i32⟩
  | 117 => ⟨S_, .i32⟩
  | 118 => ⟨S16x384x112x112x4, .i32⟩
  | 119 => ⟨S16x384x112x112x4, .i32⟩
  | 120 => ⟨S16x384x112x112x4, .i32⟩
  | 121 => ⟨S16x384x112x112x4, .i32⟩
  | 122 => ⟨S16x384x112x112x4, .i32⟩
  | 123 => ⟨S_, .i32⟩
  | 124 => ⟨S16x384x112x112x4, .i32⟩
  | 125 => ⟨S16x384x112x112x4, .i32⟩
  | 126 => ⟨S_, .i32⟩
  | 127 => ⟨S16x384x112x112x4, .i32⟩
  | _ => ⟨S16x384x224x224, .f32⟩

abbrev hbmTy0_2 (i : Nat) : BufTy := match i % 128 with
  | 0 => ⟨S16x384x112x112x4, .i32⟩
  | 1 => ⟨S16x384x112x112x4, .i32⟩
  | 2 => ⟨S16x384x112x112x4, .i32⟩
  | 3 => ⟨S16x384x112x112x4, .i32⟩
  | 4 => ⟨S_, .i32⟩
  | 5 => ⟨S16x384x112x112x4, .i32⟩
  | 6 => ⟨S16x384x112x112x4, .i32⟩
  | 7 => ⟨S_, .i32⟩
  | 8 => ⟨S16x384x112x112x4, .i32⟩
  | 9 => ⟨S16x384x112x112x4, .i32⟩
  | 10 => ⟨S16x384x112x112x4, .i32⟩
  | 11 => ⟨S16x384x112x112x4, .i32⟩
  | 12 => ⟨S16x384x112x112x4, .i32⟩
  | 13 => ⟨S16x384x112x112x4, .i32⟩
  | 14 => ⟨S16x384x112x112x4, .i32⟩
  | 15 => ⟨S16x384x112x112x4, .i32⟩
  | 16 => ⟨S_, .i32⟩
  | 17 => ⟨S16x384x112x112x4, .i32⟩
  | 18 => ⟨S16x384x112x112x4, .i32⟩
  | 19 => ⟨S16x384x112x112x4, .i32⟩
  | 20 => ⟨S_, .i32⟩
  | 21 => ⟨S16x384x112x112x4, .i32⟩
  | 22 => ⟨S16x384x112x112x4, .i32⟩
  | 23 => ⟨S_, .i32⟩
  | 24 => ⟨S16x384x112x112x4, .i32⟩
  | 25 => ⟨S16x384x112x112x4, .i32⟩
  | 26 => ⟨S16x384x112x112x4, .f32⟩
  | 27 => ⟨S_, .f32⟩
  | 28 => ⟨S16x384x112x112x4, .f32⟩
  | 29 => ⟨S16x384x112x112x4, .f32⟩
  | 30 => ⟨S1x1x1x1x1, .f32⟩
  | 31 => ⟨S16x384x112x112x4, .f32⟩
  | 32 => ⟨S16x384x112x112x4, .f32⟩
  | 33 => ⟨S16x384x112x112x4, .f32⟩
  | 34 => ⟨S16x384x112x112x4, .f32⟩
  | 35 => ⟨S16x384x112x112x4, .f32⟩
  | 36 => ⟨S16x384x112x112x4, .f32⟩
  | 37 => ⟨S_, .f32⟩
  | 38 => ⟨S16x384x112x112x4, .f32⟩
  | 39 => ⟨S16x384x112x112x4, .f32⟩
  | 40 => ⟨S16x384x112x112x4, .f32⟩
  | 41 => ⟨S16x384x112x112x4, .f32⟩
  | 42 => ⟨S16x384x112x112x4, .f32⟩
  | 43 => ⟨S16x384x112x112x4, .f32⟩
  | 44 => ⟨S16x384x112x112x4, .f32⟩
  | 45 => ⟨S16x384x112x112x4, .i32⟩
  | 46 => ⟨S_, .f32⟩
  | 47 => ⟨S_, .i32⟩
  | 48 => ⟨S16x384x112x112, .f32⟩
  | 49 => ⟨S16x384x112x112, .i32⟩
  | 50 => ⟨S16x384x112x112x1, .i32⟩
  | 51 => ⟨S_, .i32⟩
  | 52 => ⟨S16x384x112x112x1, .i32⟩
  | 53 => ⟨S16x384x112x112x1, .i1⟩
  | 54 => ⟨S_, .i32⟩
  | 55 => ⟨S16x384x112x112x1, .i32⟩
  | 56 => ⟨S16x384x112x112x1, .i32⟩
  | 57 => ⟨S16x384x112x112x1, .i32⟩
  | 58 => ⟨S16x384x112x112x1x1, .i32⟩
  | 59 => ⟨S1, .i32⟩
  | 60 => ⟨S_, .i32⟩
  | 61 => ⟨S16x384x112x112x1x1, .i32⟩
  | 62 => ⟨S16x384x112x112x1x1, .i1⟩
  | 63 => ⟨S1x1x1x1x1x1, .i32⟩
  | 64 => ⟨S16x384x112x112x1x1, .i32⟩
  | 65 => ⟨S16x384x112x112x1x1, .i1⟩
  | 66 => ⟨S16x384x112x112x1x1, .i1⟩
  | 67 => ⟨S_, .i1⟩
  | 68 => ⟨S16x384x112x112x1, .i1⟩
  | 69 => ⟨S16x384x112x112x1, .f32⟩
  | 70 => ⟨S_, .f32⟩
  | 71 => ⟨S16x384x112x112x1, .f32⟩
  | 72 => ⟨S16x384x112x112x1, .f32⟩
  | 73 => ⟨S16x384x112x112, .f32⟩
  | _ => ⟨S16x384x224x224, .f32⟩

abbrev hbmTy (i : Nat) : BufTy := match i / 128 with
  | 0 => hbmTy0_0 i
  | 1 => hbmTy0_1 i
  | 2 => hbmTy0_2 i
  | _ => ⟨S16x384x224x224, .f32⟩

abbrev bufTy : (tb : Table) → Fin (tcTables nBuf tb) → BufTy
  | .hbm, ⟨i, _⟩ => hbmTy i
  | _, _ => ⟨S16x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_c : Ref sig .tc := ⟨.hbm, 29, rfl⟩
abbrev main_call0_v13 : Ref sig .tc := ⟨.hbm, 30, rfl⟩
abbrev main_call0_v14 : Ref sig .tc := ⟨.hbm, 31, rfl⟩
abbrev main_call0_c_0 : Ref sig .tc := ⟨.hbm, 32, rfl⟩
abbrev main_call0_v15 : Ref sig .tc := ⟨.hbm, 33, rfl⟩
abbrev main_call0_v16 : Ref sig .tc := ⟨.hbm, 34, rfl⟩
abbrev main_call0_c_1 : Ref sig .tc := ⟨.hbm, 35, rfl⟩
abbrev main_call0_v17 : Ref sig .tc := ⟨.hbm, 36, rfl⟩
abbrev main_call0_v18 : Ref sig .tc := ⟨.hbm, 37, rfl⟩
abbrev main_call0_c_2 : Ref sig .tc := ⟨.hbm, 38, rfl⟩
abbrev main_call0_v19 : Ref sig .tc := ⟨.hbm, 39, rfl⟩
abbrev main_call0_v20 : Ref sig .tc := ⟨.hbm, 40, rfl⟩
abbrev main_call0_c_3 : Ref sig .tc := ⟨.hbm, 41, rfl⟩
abbrev main_call0_v21 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_c_4 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_call0_v0 : Ref sig .tc := ⟨.hbm, 53, rfl⟩
abbrev main_call0_call0_c : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_c_0 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_c_1 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_call0_v12 : Ref sig .tc := ⟨.hbm, 68, rfl⟩
abbrev main_call0_call0_v13 : Ref sig .tc := ⟨.hbm, 69, rfl⟩
abbrev main_call0_call0_c_2 : Ref sig .tc := ⟨.hbm, 70, rfl⟩
abbrev main_call0_call0_v14 : Ref sig .tc := ⟨.hbm, 71, rfl⟩
abbrev main_call0_call0_v15 : Ref sig .tc := ⟨.hbm, 72, rfl⟩
abbrev main_call0_call0_c_3 : Ref sig .tc := ⟨.hbm, 73, rfl⟩
abbrev main_call0_call0_v16 : Ref sig .tc := ⟨.hbm, 74, rfl⟩
abbrev main_call0_call0_v17 : Ref sig .tc := ⟨.hbm, 75, rfl⟩
abbrev main_call0_call0_v18 : Ref sig .tc := ⟨.hbm, 76, rfl⟩
abbrev main_call0_call0_v19 : Ref sig .tc := ⟨.hbm, 77, rfl⟩
abbrev main_call0_call0_v20 : Ref sig .tc := ⟨.hbm, 78, rfl⟩
abbrev main_call0_call0_c_4 : Ref sig .tc := ⟨.hbm, 79, rfl⟩
abbrev main_call0_call0_v21 : Ref sig .tc := ⟨.hbm, 80, rfl⟩
abbrev main_call0_call0_v22 : Ref sig .tc := ⟨.hbm, 81, rfl⟩
abbrev main_call0_call0_c_5 : Ref sig .tc := ⟨.hbm, 82, rfl⟩
abbrev main_call0_call0_v23 : Ref sig .tc := ⟨.hbm, 83, rfl⟩
abbrev main_call0_call0_v24 : Ref sig .tc := ⟨.hbm, 84, rfl⟩
abbrev main_call0_call0_v25 : Ref sig .tc := ⟨.hbm, 85, rfl⟩
abbrev main_call0_call0_v26 : Ref sig .tc := ⟨.hbm, 86, rfl⟩
abbrev main_call0_call0_v27 : Ref sig .tc := ⟨.hbm, 87, rfl⟩
abbrev main_call0_call0_c_6 : Ref sig .tc := ⟨.hbm, 88, rfl⟩
abbrev main_call0_call0_v28 : Ref sig .tc := ⟨.hbm, 89, rfl⟩
abbrev main_call0_call0_v29 : Ref sig .tc := ⟨.hbm, 90, rfl⟩
abbrev main_call0_call0_c_7 : Ref sig .tc := ⟨.hbm, 91, rfl⟩
abbrev main_call0_call0_v30 : Ref sig .tc := ⟨.hbm, 92, rfl⟩
abbrev main_call0_call0_v31 : Ref sig .tc := ⟨.hbm, 93, rfl⟩
abbrev main_call0_call0_v32 : Ref sig .tc := ⟨.hbm, 94, rfl⟩
abbrev main_call0_call0_v33 : Ref sig .tc := ⟨.hbm, 95, rfl⟩
abbrev main_call0_call0_v34 : Ref sig .tc := ⟨.hbm, 96, rfl⟩
abbrev main_call0_call0_v35 : Ref sig .tc := ⟨.hbm, 97, rfl⟩
abbrev main_call0_call0_v36 : Ref sig .tc := ⟨.hbm, 98, rfl⟩
abbrev main_call0_call0_v37 : Ref sig .tc := ⟨.hbm, 99, rfl⟩
abbrev main_call0_call0_c_8 : Ref sig .tc := ⟨.hbm, 100, rfl⟩
abbrev main_call0_call0_v38 : Ref sig .tc := ⟨.hbm, 101, rfl⟩
abbrev main_call0_call0_v39 : Ref sig .tc := ⟨.hbm, 102, rfl⟩
abbrev main_call0_call0_v40 : Ref sig .tc := ⟨.hbm, 103, rfl⟩
abbrev main_call0_call0_c_9 : Ref sig .tc := ⟨.hbm, 104, rfl⟩
abbrev main_call0_call0_v41 : Ref sig .tc := ⟨.hbm, 105, rfl⟩
abbrev main_call0_call0_v42 : Ref sig .tc := ⟨.hbm, 106, rfl⟩
abbrev main_call0_call0_c_10 : Ref sig .tc := ⟨.hbm, 107, rfl⟩
abbrev main_call0_call0_v43 : Ref sig .tc := ⟨.hbm, 108, rfl⟩
abbrev main_call0_call0_v44 : Ref sig .tc := ⟨.hbm, 109, rfl⟩
abbrev main_call0_call0_v45 : Ref sig .tc := ⟨.hbm, 110, rfl⟩
abbrev main_call0_call0_v46 : Ref sig .tc := ⟨.hbm, 111, rfl⟩
abbrev main_call0_call0_v47 : Ref sig .tc := ⟨.hbm, 112, rfl⟩
abbrev main_call0_call0_c_11 : Ref sig .tc := ⟨.hbm, 113, rfl⟩
abbrev main_call0_call0_v48 : Ref sig .tc := ⟨.hbm, 114, rfl⟩
abbrev main_call0_call0_v49 : Ref sig .tc := ⟨.hbm, 115, rfl⟩
abbrev main_call0_call0_c_12 : Ref sig .tc := ⟨.hbm, 116, rfl⟩
abbrev main_call0_call0_v50 : Ref sig .tc := ⟨.hbm, 117, rfl⟩
abbrev main_call0_call0_v51 : Ref sig .tc := ⟨.hbm, 118, rfl⟩
abbrev main_call0_call0_v52 : Ref sig .tc := ⟨.hbm, 119, rfl⟩
abbrev main_call0_call0_v53 : Ref sig .tc := ⟨.hbm, 120, rfl⟩
abbrev main_call0_call0_v54 : Ref sig .tc := ⟨.hbm, 121, rfl⟩
abbrev main_call0_call0_c_13 : Ref sig .tc := ⟨.hbm, 122, rfl⟩
abbrev main_call0_call0_v55 : Ref sig .tc := ⟨.hbm, 123, rfl⟩
abbrev main_call0_call0_v56 : Ref sig .tc := ⟨.hbm, 124, rfl⟩
abbrev main_call0_call0_c_14 : Ref sig .tc := ⟨.hbm, 125, rfl⟩
abbrev main_call0_call0_v57 : Ref sig .tc := ⟨.hbm, 126, rfl⟩
abbrev main_call0_call0_v58 : Ref sig .tc := ⟨.hbm, 127, rfl⟩
abbrev main_call0_call0_v59 : Ref sig .tc := ⟨.hbm, 128, rfl⟩
abbrev main_call0_call0_v60 : Ref sig .tc := ⟨.hbm, 129, rfl⟩
abbrev main_call0_call0_v61 : Ref sig .tc := ⟨.hbm, 130, rfl⟩
abbrev main_call0_call0_c_15 : Ref sig .tc := ⟨.hbm, 131, rfl⟩
abbrev main_call0_call0_v62 : Ref sig .tc := ⟨.hbm, 132, rfl⟩
abbrev main_call0_call0_v63 : Ref sig .tc := ⟨.hbm, 133, rfl⟩
abbrev main_call0_call0_c_16 : Ref sig .tc := ⟨.hbm, 134, rfl⟩
abbrev main_call0_call0_v64 : Ref sig .tc := ⟨.hbm, 135, rfl⟩
abbrev main_call0_call0_v65 : Ref sig .tc := ⟨.hbm, 136, rfl⟩
abbrev main_call0_call0_v66 : Ref sig .tc := ⟨.hbm, 137, rfl⟩
abbrev main_call0_call0_v67 : Ref sig .tc := ⟨.hbm, 138, rfl⟩
abbrev main_call0_call0_v68 : Ref sig .tc := ⟨.hbm, 139, rfl⟩
abbrev main_call0_call0_v69 : Ref sig .tc := ⟨.hbm, 140, rfl⟩
abbrev main_call0_call0_v70 : Ref sig .tc := ⟨.hbm, 141, rfl⟩
abbrev main_call0_call0_v71 : Ref sig .tc := ⟨.hbm, 142, rfl⟩
abbrev main_call0_call0_c_17 : Ref sig .tc := ⟨.hbm, 143, rfl⟩
abbrev main_call0_call0_v72 : Ref sig .tc := ⟨.hbm, 144, rfl⟩
abbrev main_call0_call0_v73 : Ref sig .tc := ⟨.hbm, 145, rfl⟩
abbrev main_call0_call0_v74 : Ref sig .tc := ⟨.hbm, 146, rfl⟩
abbrev main_call0_call0_c_18 : Ref sig .tc := ⟨.hbm, 147, rfl⟩
abbrev main_call0_call0_v75 : Ref sig .tc := ⟨.hbm, 148, rfl⟩
abbrev main_call0_call0_v76 : Ref sig .tc := ⟨.hbm, 149, rfl⟩
abbrev main_call0_call0_c_19 : Ref sig .tc := ⟨.hbm, 150, rfl⟩
abbrev main_call0_call0_v77 : Ref sig .tc := ⟨.hbm, 151, rfl⟩
abbrev main_call0_call0_v78 : Ref sig .tc := ⟨.hbm, 152, rfl⟩
abbrev main_call0_call0_v79 : Ref sig .tc := ⟨.hbm, 153, rfl⟩
abbrev main_call0_call0_v80 : Ref sig .tc := ⟨.hbm, 154, rfl⟩
abbrev main_call0_call0_v81 : Ref sig .tc := ⟨.hbm, 155, rfl⟩
abbrev main_call0_call0_c_20 : Ref sig .tc := ⟨.hbm, 156, rfl⟩
abbrev main_call0_call0_v82 : Ref sig .tc := ⟨.hbm, 157, rfl⟩
abbrev main_call0_call0_v83 : Ref sig .tc := ⟨.hbm, 158, rfl⟩
abbrev main_call0_call0_c_21 : Ref sig .tc := ⟨.hbm, 159, rfl⟩
abbrev main_call0_call0_v84 : Ref sig .tc := ⟨.hbm, 160, rfl⟩
abbrev main_call0_call0_v85 : Ref sig .tc := ⟨.hbm, 161, rfl⟩
abbrev main_call0_call0_v86 : Ref sig .tc := ⟨.hbm, 162, rfl⟩
abbrev main_call0_call0_v87 : Ref sig .tc := ⟨.hbm, 163, rfl⟩
abbrev main_call0_call0_v88 : Ref sig .tc := ⟨.hbm, 164, rfl⟩
abbrev main_call0_call0_c_22 : Ref sig .tc := ⟨.hbm, 165, rfl⟩
abbrev main_call0_call0_v89 : Ref sig .tc := ⟨.hbm, 166, rfl⟩
abbrev main_call0_call0_v90 : Ref sig .tc := ⟨.hbm, 167, rfl⟩
abbrev main_call0_call0_c_23 : Ref sig .tc := ⟨.hbm, 168, rfl⟩
abbrev main_call0_call0_v91 : Ref sig .tc := ⟨.hbm, 169, rfl⟩
abbrev main_call0_call0_v92 : Ref sig .tc := ⟨.hbm, 170, rfl⟩
abbrev main_call0_call0_v93 : Ref sig .tc := ⟨.hbm, 171, rfl⟩
abbrev main_call0_call0_v94 : Ref sig .tc := ⟨.hbm, 172, rfl⟩
abbrev main_call0_call0_v95 : Ref sig .tc := ⟨.hbm, 173, rfl⟩
abbrev main_call0_call0_c_24 : Ref sig .tc := ⟨.hbm, 174, rfl⟩
abbrev main_call0_call0_v96 : Ref sig .tc := ⟨.hbm, 175, rfl⟩
abbrev main_call0_call0_v97 : Ref sig .tc := ⟨.hbm, 176, rfl⟩
abbrev main_call0_call0_c_25 : Ref sig .tc := ⟨.hbm, 177, rfl⟩
abbrev main_call0_call0_v98 : Ref sig .tc := ⟨.hbm, 178, rfl⟩
abbrev main_call0_call0_v99 : Ref sig .tc := ⟨.hbm, 179, rfl⟩
abbrev main_call0_call0_v100 : Ref sig .tc := ⟨.hbm, 180, rfl⟩
abbrev main_call0_call0_v101 : Ref sig .tc := ⟨.hbm, 181, rfl⟩
abbrev main_call0_call0_v102 : Ref sig .tc := ⟨.hbm, 182, rfl⟩
abbrev main_call0_call0_v103 : Ref sig .tc := ⟨.hbm, 183, rfl⟩
abbrev main_call0_call0_v104 : Ref sig .tc := ⟨.hbm, 184, rfl⟩
abbrev main_call0_call0_v105 : Ref sig .tc := ⟨.hbm, 185, rfl⟩
abbrev main_call0_call0_c_26 : Ref sig .tc := ⟨.hbm, 186, rfl⟩
abbrev main_call0_call0_v106 : Ref sig .tc := ⟨.hbm, 187, rfl⟩
abbrev main_call0_call0_v107 : Ref sig .tc := ⟨.hbm, 188, rfl⟩
abbrev main_call0_call0_v108 : Ref sig .tc := ⟨.hbm, 189, rfl⟩
abbrev main_call0_call0_c_27 : Ref sig .tc := ⟨.hbm, 190, rfl⟩
abbrev main_call0_call0_v109 : Ref sig .tc := ⟨.hbm, 191, rfl⟩
abbrev main_call0_call0_v110 : Ref sig .tc := ⟨.hbm, 192, rfl⟩
abbrev main_call0_call0_c_28 : Ref sig .tc := ⟨.hbm, 193, rfl⟩
abbrev main_call0_call0_v111 : Ref sig .tc := ⟨.hbm, 194, rfl⟩
abbrev main_call0_call0_v112 : Ref sig .tc := ⟨.hbm, 195, rfl⟩
abbrev main_call0_call0_v113 : Ref sig .tc := ⟨.hbm, 196, rfl⟩
abbrev main_call0_call0_v114 : Ref sig .tc := ⟨.hbm, 197, rfl⟩
abbrev main_call0_call0_v115 : Ref sig .tc := ⟨.hbm, 198, rfl⟩
abbrev main_call0_call0_c_29 : Ref sig .tc := ⟨.hbm, 199, rfl⟩
abbrev main_call0_call0_v116 : Ref sig .tc := ⟨.hbm, 200, rfl⟩
abbrev main_call0_call0_v117 : Ref sig .tc := ⟨.hbm, 201, rfl⟩
abbrev main_call0_call0_c_30 : Ref sig .tc := ⟨.hbm, 202, rfl⟩
abbrev main_call0_call0_v118 : Ref sig .tc := ⟨.hbm, 203, rfl⟩
abbrev main_call0_call0_v119 : Ref sig .tc := ⟨.hbm, 204, rfl⟩
abbrev main_call0_call0_v120 : Ref sig .tc := ⟨.hbm, 205, rfl⟩
abbrev main_call0_call0_v121 : Ref sig .tc := ⟨.hbm, 206, rfl⟩
abbrev main_call0_call0_v122 : Ref sig .tc := ⟨.hbm, 207, rfl⟩
abbrev main_call0_call0_c_31 : Ref sig .tc := ⟨.hbm, 208, rfl⟩
abbrev main_call0_call0_v123 : Ref sig .tc := ⟨.hbm, 209, rfl⟩
abbrev main_call0_call0_v124 : Ref sig .tc := ⟨.hbm, 210, rfl⟩
abbrev main_call0_call0_c_32 : Ref sig .tc := ⟨.hbm, 211, rfl⟩
abbrev main_call0_call0_v125 : Ref sig .tc := ⟨.hbm, 212, rfl⟩
abbrev main_call0_call0_v126 : Ref sig .tc := ⟨.hbm, 213, rfl⟩
abbrev main_call0_call0_v127 : Ref sig .tc := ⟨.hbm, 214, rfl⟩
abbrev main_call0_call0_v128 : Ref sig .tc := ⟨.hbm, 215, rfl⟩
abbrev main_call0_call0_v129 : Ref sig .tc := ⟨.hbm, 216, rfl⟩
abbrev main_call0_call0_c_33 : Ref sig .tc := ⟨.hbm, 217, rfl⟩
abbrev main_call0_call0_v130 : Ref sig .tc := ⟨.hbm, 218, rfl⟩
abbrev main_call0_call0_v131 : Ref sig .tc := ⟨.hbm, 219, rfl⟩
abbrev main_call0_call0_c_34 : Ref sig .tc := ⟨.hbm, 220, rfl⟩
abbrev main_call0_call0_v132 : Ref sig .tc := ⟨.hbm, 221, rfl⟩
abbrev main_call0_call0_v133 : Ref sig .tc := ⟨.hbm, 222, rfl⟩
abbrev main_call0_call0_v134 : Ref sig .tc := ⟨.hbm, 223, rfl⟩
abbrev main_call0_call0_v135 : Ref sig .tc := ⟨.hbm, 224, rfl⟩
abbrev main_call0_call0_v136 : Ref sig .tc := ⟨.hbm, 225, rfl⟩
abbrev main_call0_call0_v137 : Ref sig .tc := ⟨.hbm, 226, rfl⟩
abbrev main_call0_call0_v138 : Ref sig .tc := ⟨.hbm, 227, rfl⟩
abbrev main_call0_call0_v139 : Ref sig .tc := ⟨.hbm, 228, rfl⟩
abbrev main_call0_call0_c_35 : Ref sig .tc := ⟨.hbm, 229, rfl⟩
abbrev main_call0_call0_v140 : Ref sig .tc := ⟨.hbm, 230, rfl⟩
abbrev main_call0_call0_v141 : Ref sig .tc := ⟨.hbm, 231, rfl⟩
abbrev main_call0_call0_v142 : Ref sig .tc := ⟨.hbm, 232, rfl⟩
abbrev main_call0_call0_c_36 : Ref sig .tc := ⟨.hbm, 233, rfl⟩
abbrev main_call0_call0_v143 : Ref sig .tc := ⟨.hbm, 234, rfl⟩
abbrev main_call0_call0_v144 : Ref sig .tc := ⟨.hbm, 235, rfl⟩
abbrev main_call0_call0_c_37 : Ref sig .tc := ⟨.hbm, 236, rfl⟩
abbrev main_call0_call0_v145 : Ref sig .tc := ⟨.hbm, 237, rfl⟩
abbrev main_call0_call0_v146 : Ref sig .tc := ⟨.hbm, 238, rfl⟩
abbrev main_call0_call0_v147 : Ref sig .tc := ⟨.hbm, 239, rfl⟩
abbrev main_call0_call0_v148 : Ref sig .tc := ⟨.hbm, 240, rfl⟩
abbrev main_call0_call0_v149 : Ref sig .tc := ⟨.hbm, 241, rfl⟩
abbrev main_call0_call0_c_38 : Ref sig .tc := ⟨.hbm, 242, rfl⟩
abbrev main_call0_call0_v150 : Ref sig .tc := ⟨.hbm, 243, rfl⟩
abbrev main_call0_call0_v151 : Ref sig .tc := ⟨.hbm, 244, rfl⟩
abbrev main_call0_call0_c_39 : Ref sig .tc := ⟨.hbm, 245, rfl⟩
abbrev main_call0_call0_v152 : Ref sig .tc := ⟨.hbm, 246, rfl⟩
abbrev main_call0_call0_v153 : Ref sig .tc := ⟨.hbm, 247, rfl⟩
abbrev main_call0_call0_v154 : Ref sig .tc := ⟨.hbm, 248, rfl⟩
abbrev main_call0_call0_v155 : Ref sig .tc := ⟨.hbm, 249, rfl⟩
abbrev main_call0_call0_v156 : Ref sig .tc := ⟨.hbm, 250, rfl⟩
abbrev main_call0_call0_c_40 : Ref sig .tc := ⟨.hbm, 251, rfl⟩
abbrev main_call0_call0_v157 : Ref sig .tc := ⟨.hbm, 252, rfl⟩
abbrev main_call0_call0_v158 : Ref sig .tc := ⟨.hbm, 253, rfl⟩
abbrev main_call0_call0_c_41 : Ref sig .tc := ⟨.hbm, 254, rfl⟩
abbrev main_call0_call0_v159 : Ref sig .tc := ⟨.hbm, 255, rfl⟩
abbrev main_call0_call0_v160 : Ref sig .tc := ⟨.hbm, 256, rfl⟩
abbrev main_call0_call0_v161 : Ref sig .tc := ⟨.hbm, 257, rfl⟩
abbrev main_call0_call0_v162 : Ref sig .tc := ⟨.hbm, 258, rfl⟩
abbrev main_call0_call0_v163 : Ref sig .tc := ⟨.hbm, 259, rfl⟩
abbrev main_call0_call0_c_42 : Ref sig .tc := ⟨.hbm, 260, rfl⟩
abbrev main_call0_call0_v164 : Ref sig .tc := ⟨.hbm, 261, rfl⟩
abbrev main_call0_call0_v165 : Ref sig .tc := ⟨.hbm, 262, rfl⟩
abbrev main_call0_call0_c_43 : Ref sig .tc := ⟨.hbm, 263, rfl⟩
abbrev main_call0_call0_v166 : Ref sig .tc := ⟨.hbm, 264, rfl⟩
abbrev main_call0_call0_v167 : Ref sig .tc := ⟨.hbm, 265, rfl⟩
abbrev main_call0_call0_v168 : Ref sig .tc := ⟨.hbm, 266, rfl⟩
abbrev main_call0_call0_v169 : Ref sig .tc := ⟨.hbm, 267, rfl⟩
abbrev main_call0_call0_v170 : Ref sig .tc := ⟨.hbm, 268, rfl⟩
abbrev main_call0_v31_0 : Ref sig .tc := ⟨.hbm, 269, rfl⟩
abbrev main_call0_call0_v172 : Ref sig .tc := ⟨.hbm, 270, rfl⟩
abbrev main_call0_call0_v173 : Ref sig .tc := ⟨.hbm, 271, rfl⟩
abbrev main_call0_call0_c_44 : Ref sig .tc := ⟨.hbm, 272, rfl⟩
abbrev main_call0_call0_v174 : Ref sig .tc := ⟨.hbm, 273, rfl⟩
abbrev main_call0_v31_1 : Ref sig .tc := ⟨.hbm, 274, rfl⟩
abbrev main_call0_v32 : Ref sig .tc := ⟨.hbm, 275, rfl⟩
abbrev main_call0_c_5 : Ref sig .tc := ⟨.hbm, 276, rfl⟩
abbrev main_call0_v33 : Ref sig .tc := ⟨.hbm, 277, rfl⟩
abbrev main_call0_v34 : Ref sig .tc := ⟨.hbm, 278, rfl⟩
abbrev main_call0_c_6 : Ref sig .tc := ⟨.hbm, 279, rfl⟩
abbrev main_call0_v35 : Ref sig .tc := ⟨.hbm, 280, rfl⟩
abbrev main_call0_v36 : Ref sig .tc := ⟨.hbm, 281, rfl⟩
abbrev main_call0_v37 : Ref sig .tc := ⟨.hbm, 282, rfl⟩
abbrev main_call0_cst : Ref sig .tc := ⟨.hbm, 283, rfl⟩
abbrev main_call0_v38 : Ref sig .tc := ⟨.hbm, 284, rfl⟩
abbrev main_call0_v39 : Ref sig .tc := ⟨.hbm, 285, rfl⟩
abbrev main_call0_v40 : Ref sig .tc := ⟨.hbm, 286, rfl⟩
abbrev main_call0_v41 : Ref sig .tc := ⟨.hbm, 287, rfl⟩
abbrev main_call0_v42 : Ref sig .tc := ⟨.hbm, 288, rfl⟩
abbrev main_call0_v43 : Ref sig .tc := ⟨.hbm, 289, rfl⟩
abbrev main_call0_v44 : Ref sig .tc := ⟨.hbm, 290, rfl⟩
abbrev main_call0_v45 : Ref sig .tc := ⟨.hbm, 291, rfl⟩
abbrev main_v10 : Ref sig .tc := ⟨.hbm, 292, rfl⟩
abbrev main_cst_3 : Ref sig .tc := ⟨.hbm, 293, rfl⟩
abbrev main_v11 : Ref sig .tc := ⟨.hbm, 294, rfl⟩
abbrev main_v12 : Ref sig .tc := ⟨.hbm, 295, rfl⟩
abbrev main_v13 : Ref sig .tc := ⟨.hbm, 296, rfl⟩
abbrev main_v14 : Ref sig .tc := ⟨.hbm, 297, rfl⟩
abbrev main_v15 : Ref sig .tc := ⟨.hbm, 298, rfl⟩
abbrev main_v16 : Ref sig .tc := ⟨.hbm, 299, rfl⟩
abbrev main_v17 : Ref sig .tc := ⟨.hbm, 300, rfl⟩
abbrev main_call1_v0 : Ref sig .tc := ⟨.hbm, 301, rfl⟩
abbrev main_call1_cst : Ref sig .tc := ⟨.hbm, 302, rfl⟩
abbrev main_call1_c : Ref sig .tc := ⟨.hbm, 303, rfl⟩
abbrev main_call1_v1_0 : Ref sig .tc := ⟨.hbm, 304, rfl⟩
abbrev main_v18 : Ref sig .tc := ⟨.hbm, 305, rfl⟩
abbrev main_v19 : Ref sig .tc := ⟨.hbm, 306, rfl⟩
abbrev main_call2_c : Ref sig .tc := ⟨.hbm, 307, rfl⟩
abbrev main_call2_v0 : Ref sig .tc := ⟨.hbm, 308, rfl⟩
abbrev main_call2_v1 : Ref sig .tc := ⟨.hbm, 309, rfl⟩
abbrev main_call2_c_0 : Ref sig .tc := ⟨.hbm, 310, rfl⟩
abbrev main_call2_v2 : Ref sig .tc := ⟨.hbm, 311, rfl⟩
abbrev main_call2_v3 : Ref sig .tc := ⟨.hbm, 312, rfl⟩
abbrev main_call2_v4 : Ref sig .tc := ⟨.hbm, 313, rfl⟩
abbrev main_call2_v5 : Ref sig .tc := ⟨.hbm, 314, rfl⟩
abbrev main_call2_c_1 : Ref sig .tc := ⟨.hbm, 315, rfl⟩
abbrev main_call2_c_2 : Ref sig .tc := ⟨.hbm, 316, rfl⟩
abbrev main_call2_v6 : Ref sig .tc := ⟨.hbm, 317, rfl⟩
abbrev main_call2_v7 : Ref sig .tc := ⟨.hbm, 318, rfl⟩
abbrev main_call2_v8 : Ref sig .tc := ⟨.hbm, 319, rfl⟩
abbrev main_call2_v9 : Ref sig .tc := ⟨.hbm, 320, rfl⟩
abbrev main_call2_v10 : Ref sig .tc := ⟨.hbm, 321, rfl⟩
abbrev main_call2_v11 : Ref sig .tc := ⟨.hbm, 322, rfl⟩
abbrev main_call2_c_3 : Ref sig .tc := ⟨.hbm, 323, rfl⟩
abbrev main_call2_v12 : Ref sig .tc := ⟨.hbm, 324, rfl⟩
abbrev main_call2_v13 : Ref sig .tc := ⟨.hbm, 325, rfl⟩
abbrev main_call2_cst : Ref sig .tc := ⟨.hbm, 326, rfl⟩
abbrev main_call2_v14 : Ref sig .tc := ⟨.hbm, 327, rfl⟩
abbrev main_v20 : Ref sig .tc := ⟨.hbm, 328, rfl⟩
abbrev main_v21 : Ref sig .tc := ⟨.hbm, 329, rfl⟩

abbrev nD : Nat := 1
abbrev τ : Topo := Topo.v7x

variable {F : FTy → Type} [FloatOps F]
-- ==== Proof.RefOps.lean ====
/-
  The reference as a straight line of operations: `@main` with the bodies of the functions it calls in the calls' places.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Line

open Idealize.ShloMosaic Idealize.ShloMosaic.TcCoe Idealize.SL.Sem Idealize.ShloMosaic.StableHlo
open Cert.ReferenceIdeal Cert.ReferenceIdeal.Gen

variable {F : FTy → Type} [FloatOps F]

/-- A list of operations. -/
abbrev Ops (F : FTy → Type) [FloatOps F] := List (HloOp τ sig (Elt F))

/-- A buffer of one word per candidate. -/
abbrev Words := TRef sig ⟨S16x384x112x112x4, .i32⟩

/-- A buffer of one word. -/
abbrev Word := TRef sig ⟨S_, .i32⟩

/-! ## The generator -/

/-- One round on the words at `x` and `y`: their sum to `s`, and `y` turned by `l` bits (`r` the rest of the width) xored with it
    to `n`. -/
def roundOps (x y : Words) (l r : BitVec 32) (s : Words) (c : Word) (b t : Words) (c' : Word) (b' t' o n : Words) : Ops F :=
  [TRef.binary x y s addi,
   TRef.nullary c (constantI S_ 32 l),
   TRef.unary c b (broadcastInDim S16x384x112x112x4 ![] bcast_S_S16x384x112x112x4),
   TRef.binary y b t Host.shli,
   TRef.nullary c' (constantI S_ 32 r),
   TRef.unary c' b' (broadcastInDim S16x384x112x112x4 ![] bcast_S_S16x384x112x112x4),
   TRef.binary y b' t' Host.shrui,
   TRef.binary t t' o ori,
   TRef.binary s o n xori]

/-- The key words at `k` and `k'`, and the count `g`, added to the words at `x` and `y`: to `s` and to `n`. -/
def injectOps (k k' c : Word) (g : BitVec 32) (x y b s b' t b'' n : Words) : Ops F :=
  [TRef.unary k b (broadcastInDim S16x384x112x112x4 ![] bcast_S_S16x384x112x112x4),
   TRef.binary x b s addi,
   TRef.unary k' b' (broadcastInDim S16x384x112x112x4 ![] bcast_S_S16x384x112x112x4),
   TRef.binary y b' t addi,
   TRef.nullary c (constantI S_ 32 g),
   TRef.unary c b'' (broadcastInDim S16x384x112x112x4 ![] bcast_S_S16x384x112x112x4),
   TRef.binary t b'' n addi]

section Threefry

variable (k₀ k₁ : Word) (hi lo : Words) (φ : fn_threefry2x32.Bufs)

/-- The third key word, and the first two added to the counter. -/
def startOps : Ops F :=
  [TRef.binary k₀ k₁ φ.v0 xori,
   TRef.nullary φ.c (constantI S_ 32 466688986#32),
   TRef.binary φ.v0 φ.c φ.v1 xori,
   TRef.unary k₀ φ.v2 (broadcastInDim S16x384x112x112x4 ![] bcast_S_S16x384x112x112x4),
   TRef.binary hi φ.v2 φ.v3 addi,
   TRef.unary k₁ φ.v4 (broadcastInDim S16x384x112x112x4 ![] bcast_S_S16x384x112x112x4),
   TRef.binary lo φ.v4 φ.v5 addi]

/-- The first group of rounds. -/
def firstOps : Ops F :=
  roundOps φ.v3 φ.v5 13#32 19#32 φ.v6 φ.c_0 φ.v7 φ.v8 φ.c_1 φ.v9 φ.v10 φ.v11 φ.v12 ++
  roundOps φ.v6 φ.v12 15#32 17#32 φ.v13 φ.c_2 φ.v14 φ.v15 φ.c_3 φ.v16 φ.v17 φ.v18 φ.v19 ++
  roundOps φ.v13 φ.v19 26#32 6#32 φ.v20 φ.c_4 φ.v21 φ.v22 φ.c_5 φ.v23 φ.v24 φ.v25 φ.v26 ++
  roundOps φ.v20 φ.v26 6#32 26#32 φ.v27 φ.c_6 φ.v28 φ.v29 φ.c_7 φ.v30 φ.v31 φ.v32 φ.v33 ++
  injectOps k₁ φ.v1 φ.c_8 1#32 φ.v27 φ.v33 φ.v34 φ.v35 φ.v36 φ.v37 φ.v38 φ.v39

/-- The second group of rounds. -/
def secondOps : Ops F :=
  roundOps φ.v35 φ.v39 17#32 15#32 φ.v40 φ.c_9 φ.v41 φ.v42 φ.c_10 φ.v43 φ.v44 φ.v45 φ.v46 ++
  roundOps φ.v40 φ.v46 29#32 3#32 φ.v47 φ.c_11 φ.v48 φ.v49 φ.c_12 φ.v50 φ.v51 φ.v52 φ.v53 ++
  roundOps φ.v47 φ.v53 16#32 16#32 φ.v54 φ.c_13 φ.v55 φ.v56 φ.c_14 φ.v57 φ.v58 φ.v59 φ.v60 ++
  roundOps φ.v54 φ.v60 24#32 8#32 φ.v61 φ.c_15 φ.v62 φ.v63 φ.c_16 φ.v64 φ.v65 φ.v66 φ.v67 ++
  injectOps φ.v1 k₀ φ.c_17 2#32 φ.v61 φ.v67 φ.v68 φ.v69 φ.v70 φ.v71 φ.v72 φ.v73

/-- The third group of rounds. -/
def thirdOps : Ops F :=
  roundOps φ.v69 φ.v73 13#32 19#32 φ.v74 φ.c_18 φ.v75 φ.v76 φ.c_19 φ.v77 φ.v78 φ.v79 φ.v80 ++
  roundOps φ.v74 φ.v80 15#32 17#32 φ.v81 φ.c_20 φ.v82 φ.v83 φ.c_21 φ.v84 φ.v85 φ.v86 φ.v87 ++
  roundOps φ.v81 φ.v87 26#32 6#32 φ.v88 φ.c_22 φ.v89 φ.v90 φ.c_23 φ.v91 φ.v92 φ.v93 φ.v94 ++
  roundOps φ.v88 φ.v94 6#32 26#32 φ.v95 φ.c_24 φ.v96 φ.v97 φ.c_25 φ.v98 φ.v99 φ.v100 φ.v101 ++
  injectOps k₀ k₁ φ.c_26 3#32 φ.v95 φ.v101 φ.v102 φ.v103 φ.v104 φ.v105 φ.v106 φ.v107

/-- The fourth group of rounds. -/
def fourthOps : Ops F :=
  roundOps φ.v103 φ.v107 17#32 15#32 φ.v108 φ.c_27 φ.v109 φ.v110 φ.c_28 φ.v111 φ.v112 φ.v113 φ.v114 ++
  roundOps φ.v108 φ.v114 29#32 3#32 φ.v115 φ.c_29 φ.v116 φ.v117 φ.c_30 φ.v118 φ.v119 φ.v120 φ.v121 ++
  roundOps φ.v115 φ.v121 16#32 16#32 φ.v122 φ.c_31 φ.v123 φ.v124 φ.c_32 φ.v125 φ.v126 φ.v127 φ.v128 ++
  roundOps φ.v122 φ.v128 24#32 8#32 φ.v129 φ.c_33 φ.v130 φ.v131 φ.c_34 φ.v132 φ.v133 φ.v134 φ.v135 ++
  injectOps k₁ φ.v1 φ.c_35 4#32 φ.v129 φ.v135 φ.v136 φ.v137 φ.v138 φ.v139 φ.v140 φ.v141

/-- The fifth group of rounds. -/
def fifthOps : Ops F :=
  roundOps φ.v137 φ.v141 13#32 19#32 φ.v142 φ.c_36 φ.v143 φ.v144 φ.c_37 φ.v145 φ.v146 φ.v147 φ.v148 ++
  roundOps φ.v142 φ.v148 15#32 17#32 φ.v149 φ.c_38 φ.v150 φ.v151 φ.c_39 φ.v152 φ.v153 φ.v154 φ.v155 ++
  roundOps φ.v149 φ.v155 26#32 6#32 φ.v156 φ.c_40 φ.v157 φ.v158 φ.c_41 φ.v159 φ.v160 φ.v161 φ.v162 ++
  roundOps φ.v156 φ.v162 6#32 26#32 φ.v163 φ.c_42 φ.v164 φ.v165 φ.c_43 φ.v166 φ.v167 φ.v168 φ.v169 ++
  injectOps φ.v1 k₀ φ.c_44 5#32 φ.v163 φ.v169 φ.v170 φ.v171 φ.v172 φ.v173 φ.v174 φ.v175

/-- The generator's operations. -/
def threefryOps : Ops F :=
  startOps k₀ k₁ hi lo φ ++ (firstOps k₁ φ ++ (secondOps k₀ φ ++ (thirdOps k₀ k₁ φ ++ (fourthOps k₁ φ ++ fifthOps k₀ φ))))

set_option maxHeartbeats 2000000 in
/-- The generator's body is its operations in order. -/
theorem threefry_eq : fn_threefry2x32.body (F := F) k₀ k₁ hi lo φ = seq (threefryOps k₀ k₁ hi lo φ) := rfl

end Threefry

/-! ## The uniform numbers -/

section Uniform

variable (arg0 : TRef sig ⟨S2, .i32⟩) (arg1 arg2 : TRef sig ⟨S_, .f32⟩) (φ : fn_uniform.Bufs)

/-- The bounds, the key's two words, and each candidate's position as the counter's two words. -/
def counterOps : Ops F :=
  [TRef.unary arg1 φ.v0 id,
   TRef.unary arg2 φ.v1 id,
   TRef.unary φ.v0 φ.v2 (broadcastInDim S1x1x1x1x1 ![] bcast_S_S1x1x1x1x1),
   TRef.unary φ.v1 φ.v3 (broadcastInDim S1x1x1x1x1 ![] bcast_S_S1x1x1x1x1),
   TRef.unary arg0 φ.v4 (extractStridedSlice S1 ![0] · slices_S2_S1_0),
   TRef.reshape φ.v4 φ.v5 (rfl : (.i32 : EltTy) = .i32) shapeCasts_S1_S_,
   TRef.unary arg0 φ.v6 (extractStridedSlice S1 ![1] · slices_S2_S1_1),
   TRef.reshape φ.v6 φ.v7 (rfl : (.i32 : EltTy) = .i32) shapeCasts_S1_S_,
   TRef.nullary φ.v8 (iotaInDim S16x384x112x112x4 64 0),
   TRef.nullary φ.v9 (iotaInDim S16x384x112x112x4 64 1),
   TRef.nullary φ.v10 (iotaInDim S16x384x112x112x4 64 2),
   TRef.nullary φ.v11 (iotaInDim S16x384x112x112x4 64 3),
   TRef.nullary φ.v12 (iotaInDim S16x384x112x112x4 64 4),
   TRef.nullary φ.c (constantI S_ 64 19267584#64),
   TRef.unary φ.c φ.v13 (broadcastInDim S16x384x112x112x4 ![] bcast_S_S16x384x112x112x4),
   TRef.binary φ.v13 φ.v8 φ.v14 muli,
   TRef.nullary φ.c_0 (constantI S_ 64 50176#64),
   TRef.unary φ.c_0 φ.v15 (broadcastInDim S16x384x112x112x4 ![] bcast_S_S16x384x112x112x4),
   TRef.binary φ.v15 φ.v9 φ.v16 muli,
   TRef.nullary φ.c_1 (constantI S_ 64 448#64),
   TRef.unary φ.c_1 φ.v17 (broadcastInDim S16x384x112x112x4 ![] bcast_S_S16x384x112x112x4),
   TRef.binary φ.v17 φ.v10 φ.v18 muli,
   TRef.nullary φ.c_2 (constantI S_ 64 4#64),
   TRef.unary φ.c_2 φ.v19 (broadcastInDim S16x384x112x112x4 ![] bcast_S_S16x384x112x112x4),
   TRef.binary φ.v19 φ.v11 φ.v20 muli,
   TRef.nullary φ.c_3 (constantI S_ 64 1#64),
   TRef.unary φ.c_3 φ.v21 (broadcastInDim S16x384x112x112x4 ![] bcast_S_S16x384x112x112x4),
   TRef.binary φ.v21 φ.v12 φ.v22 muli,
   TRef.binary φ.v14 φ.v16 φ.v23 addi,
   TRef.binary φ.v23 φ.v18 φ.v24 addi,
   TRef.binary φ.v24 φ.v20 φ.v25 addi,
   TRef.binary φ.v25 φ.v22 φ.v26 addi,
   TRef.nullary φ.c_4 (constantI S_ 64 32#64),
   TRef.unary φ.c_4 φ.v27 (broadcastInDim S16x384x112x112x4 ![] bcast_S_S16x384x112x112x4),
   TRef.binary φ.v26 φ.v27 φ.v28 Host.shrui,
   TRef.unary φ.v26 φ.v29 (trunci 32 · natLt_32_64),
   TRef.unary φ.v28 φ.v30 (trunci 32 · natLt_32_64)]

/-- A number of [0, 1) from the upper 23 of the bits drawn, scaled to the bounds. -/
def floatOps : Ops F :=
  [TRef.binary φ.call0.v171 φ.call0.v175 φ.v32 xori,
   TRef.nullary φ.c_5 (constantI S_ 32 9#32),
   TRef.unary φ.c_5 φ.v33 (broadcastInDim S16x384x112x112x4 ![] bcast_S_S16x384x112x112x4),
   TRef.binary φ.v32 φ.v33 φ.v34 Host.shrui,
   TRef.nullary φ.c_6 (constantI S_ 32 1065353216#32),
   TRef.unary φ.c_6 φ.v35 (broadcastInDim S16x384x112x112x4 ![] bcast_S_S16x384x112x112x4),
   TRef.binary φ.v34 φ.v35 φ.v36 ori,
   TRef.unary φ.v36 φ.v37 (bitcastToFloat .f32),
   TRef.nullary φ.cst (constant S_ .f32 0x3F800000#32),
   TRef.unary φ.cst φ.v38 (broadcastInDim S16x384x112x112x4 ![] bcast_S_S16x384x112x112x4),
   TRef.binary φ.v37 φ.v38 φ.v39 subf,
   TRef.binary φ.v3 φ.v2 φ.v40 subf,
   TRef.unary φ.v40 φ.v41 (broadcastInDim S16x384x112x112x4 ![0, 1, 2, 3, 4] bcast_S1x1x1x1x1_S16x384x112x112x4_0_1_2_3_4),
   TRef.binary φ.v39 φ.v41 φ.v42 mulf,
   TRef.unary φ.v2 φ.v43 (broadcastInDim S16x384x112x112x4 ![0, 1, 2, 3, 4] bcast_S1x1x1x1x1_S16x384x112x112x4_0_1_2_3_4),
   TRef.binary φ.v42 φ.v43 φ.v44 addf,
   TRef.unary φ.v2 φ.v45 (broadcastInDim S16x384x112x112x4 ![0, 1, 2, 3, 4] bcast_S1x1x1x1x1_S16x384x112x112x4_0_1_2_3_4),
   TRef.binary φ.v45 φ.v44 φ.v46 maximumf]

/-- The uniform numbers' operations. -/
def uniformOps : Ops F :=
  counterOps arg0 arg1 arg2 φ ++ (threefryOps φ.v5 φ.v7 φ.v30 φ.v29 φ.call0 ++ floatOps φ)

/-- The uniform numbers' body is its operations in order. -/
theorem uniform_eq : fn_uniform.body (F := F) arg0 arg1 arg2 φ = seq (uniformOps arg0 arg1 arg2 φ) := by
  rw [uniformOps, seq_append, seq_append, ← threefry_eq]
  rfl

end Uniform

/-! ## The choice -/

/-- The position of the first greatest of four scores. -/
def argmaxOps (arg0 : TRef sig ⟨S16x384x112x112x4, .f32⟩) (φ : fn_argmax.Bufs) : Ops F :=
  [TRef.nullary φ.v0 (iotaInDim S16x384x112x112x4 32 4),
   TRef.nullary φ.cst (constant S_ .f32 0xFF800000#32),
   TRef.nullary φ.c (constantI S_ 32 0#32),
   TRef.quaternary arg0 φ.v0 φ.cst φ.c φ.v1_0 (fun x y u v j => (Host.argReduce reducer_argmax_f32_i32 x y u v reducesTo_S16x384x112x112x4_S16x384x112x112_d4 h_S_ j).1),
   TRef.quaternary arg0 φ.v0 φ.cst φ.c φ.v1_1 (fun x y u v j => (Host.argReduce reducer_argmax_f32_i32 x y u v reducesTo_S16x384x112x112x4_S16x384x112x112_d4 h_S_ j).2)]

/-- The printed arg-max is these operations in order. -/
theorem argmax_eq (arg0 : TRef sig ⟨S16x384x112x112x4, .f32⟩) (φ : fn_argmax.Bufs) :
    fn_argmax.body (F := F) arg0 φ = seq (argmaxOps arg0 φ) := rfl

/-- The value at a position. -/
def takeOps (arg0 : TRef sig ⟨S16x384x112x112x4, .f32⟩) (arg1 : TRef sig ⟨S16x384x112x112x1, .i32⟩) (φ : fn_take_along_axis.Bufs) : Ops F :=
  [TRef.nullary φ.c (constantI S_ 32 0#32),
   TRef.unary φ.c φ.v0 (broadcastInDim S16x384x112x112x1 ![] bcast_S_S16x384x112x112x1),
   TRef.binary arg1 φ.v0 φ.v1 (cmpi .slt),
   TRef.nullary φ.c_0 (constantI S_ 32 4#32),
   TRef.unary φ.c_0 φ.v2 (broadcastInDim S16x384x112x112x1 ![] bcast_S_S16x384x112x112x1),
   TRef.binary arg1 φ.v2 φ.v3 addi,
   TRef.ternary φ.v1 φ.v3 arg1 φ.v4 select,
   TRef.reshape φ.v4 φ.v5 (rfl : (.i32 : EltTy) = .i32) shapeCasts_S16x384x112x112x1_S16x384x112x112x1x1,
   TRef.nullary φ.c_1 (constantI S1 32 3#32),
   TRef.nullary φ.c_2 (constantI S_ 32 0#32),
   TRef.unary φ.c_2 φ.v6 (broadcastInDim S16x384x112x112x1x1 ![] bcast_S_S16x384x112x112x1x1),
   TRef.binary φ.v5 φ.v6 φ.v7 (cmpi .sge),
   TRef.unary φ.c_1 φ.v8 (broadcastInDim S1x1x1x1x1x1 ![5] bcast_S1_S1x1x1x1x1x1_5),
   TRef.unary φ.v8 φ.v9 (broadcastInDim S16x384x112x112x1x1 ![0, 1, 2, 3, 4, 5] bcast_S1x1x1x1x1x1_S16x384x112x112x1x1_0_1_2_3_4_5),
   TRef.binary φ.v5 φ.v9 φ.v10 (cmpi .sle),
   TRef.binary φ.v7 φ.v10 φ.v11 andi,
   TRef.nullary φ.c_3 (constantI S_ 1 1#1),
   TRef.binary φ.v11 φ.c_3 φ.v12 (fun x v => Host.reduce IntOp.andi x v reducesTo_S16x384x112x112x1x1_S16x384x112x112x1_d5 h_S_),
   TRef.binary arg0 φ.v5 φ.v13 (fun x i => Host.gather gather_S16x384x112x112x4_S16x384x112x112x1x1_S16x384x112x112x1_n_4_0123_0123_4_5_11111 x i),
   TRef.nullary φ.cst (constant S_ .f32 0x7FC00000#32),
   TRef.unary φ.cst φ.v14 (broadcastInDim S16x384x112x112x1 ![] bcast_S_S16x384x112x112x1),
   TRef.ternary φ.v12 φ.v13 φ.v14 φ.v15 select]

/-- The printed taking of a value is these operations in order. -/
theorem take_eq (arg0 : TRef sig ⟨S16x384x112x112x4, .f32⟩) (arg1 : TRef sig ⟨S16x384x112x112x1, .i32⟩) (φ : fn_take_along_axis.Bufs) :
    fn_take_along_axis.body (F := F) arg0 arg1 φ = seq (takeOps arg0 arg1 φ) := rfl

/-! ## The whole line -/

/-- The candidates of each region, the generator's key and the uniform numbers' bounds. -/
def headOps : Ops F :=
  [reshape main_arg0 main_v0 (rfl : (.f32 : EltTy) = .f32) shapeCasts_S16x384x224x224_S16x384x112x2x112x2,
   unary main_v0 main_v1 ((transpose S16x384x112x112x2x2 [0, 1, 2, 4, 3, 5] · transposes_S16x384x112x2x112x2_S16x384x112x112x2x2_0_1_2_4_3_5)),
   reshape main_v1 main_v2 (rfl : (.f32 : EltTy) = .f32) shapeCasts_S16x384x112x112x2x2_S16x384x112x112x4,
   nullary main_c (constantI S_ 32 42#32),
   nullary main_c_0 (constantI S_ 32 32#32),
   binary main_c main_c_0 main_v3 (Host.shrui),
   unary main_v3 main_v4 (id),
   unary main_v4 main_v5 (broadcastInDim S1 ![] bcast_S_S1),
   nullary main_c_1 (constantI S_ 32 4294967295#32),
   binary main_c main_c_1 main_v6 (andi),
   unary main_v6 main_v7 (id),
   unary main_v7 main_v8 (broadcastInDim S1 ![] bcast_S_S1),
   binary main_v5 main_v8 main_v9 ((fun a b => concatenate S2 0 [⟨S1, a⟩, ⟨S1, b⟩] concatenates_S1_S1_S2_d0)),
   nullary main_cst (constant S_ .f32 0x00000000#32),
   nullary main_cst_2 (constant S_ .f32 0x3F800000#32)]

/-- The Gumbel noise of the uniform numbers, added to the candidates. -/
def scoreOps : Ops F :=
  [nullary main_cst_3 (constant S_ .f32 0x00800000#32),
   unary main_cst_3 main_v11 (broadcastInDim S16x384x112x112x4 ![] bcast_S_S16x384x112x112x4),
   binary main_v10 main_v11 main_v12 (maximumf),
   unary main_v12 main_v13 (Host.log),
   unary main_v13 main_v14 (Host.negf),
   unary main_v14 main_v15 (Host.log),
   unary main_v15 main_v16 (Host.negf),
   binary main_v16 main_v2 main_v17 (addf)]

/-- The position with a unit axis. -/
def unitOps : Ops F :=
  [unary main_v18 main_v19 (broadcastInDim S16x384x112x112x1 ![0, 1, 2, 3] bcast_S16x384x112x112_S16x384x112x112x1_0_1_2_3)]

/-- The picked values without their unit axis. -/
def resultOps : Ops F :=
  [reshape main_v20 main_v21 (rfl : (.f32 : EltTy) = .f32) shapeCasts_S16x384x112x112x1_S16x384x112x112]

/-- `@main`'s operations in order. -/
def ops : Ops F :=
  headOps ++ (uniformOps (.of main_v9) (.of main_cst) (.of main_cst_2) main_call0 ++ (scoreOps ++ (argmaxOps (.of main_v17) main_call1 ++
    (unitOps ++ (takeOps (.of main_v2) (.of main_v19) main_call2 ++ resultOps)))))

/-- `@main` is its operations in order. -/
theorem main_eq (c : Dev nD) : main (F := F) c = seq ops := by
  rw [ops, seq_append, seq_append, seq_append, seq_append, seq_append, seq_append, ← uniform_eq, ← argmax_eq, ← take_eq]
  rfl

end Cert.ReferenceIdeal.Line

end
-- ==== Proof.RefRead.lean ====
/-
  What each stretch of the reference's operations computes, from whatever the buffers held before it.
-/
module

public import proofs.«01_k».proof.Proof.RefOps
public import Idealize.ShloMosaic.Lib.Pipeline.Frame
public import Idealize.ShloMosaic.Lib.StableHlo.RunRead
public import Idealize.ShloMosaic.Lib.StableHlo.RunClose

@[expose] public section

set_option maxRecDepth 16384
set_option Elab.async false

noncomputable section

namespace Cert.ReferenceIdeal.Line

open Idealize.ShloMosaic Idealize.ShloMosaic.TcCoe Idealize.SL.Sem Idealize.ShloMosaic.StableHlo
open Cert.ReferenceIdeal Cert.ReferenceIdeal.Gen

variable {F : FTy → Type} [FloatOps F]

/-- One word per candidate. -/
abbrev V5 := IVec S16x384x112x112x4 32

/-- A word at every candidate. -/
def splat (k : IVec S_ 32) : V5 := broadcastInDim S16x384x112x112x4 ![] bcast_S_S16x384x112x112x4 k

/-- Each word turned left by `l` bits, `r` being the rest of the word's width. -/
def turn (v : V5) (l r : BitVec 32) : V5 :=
  ori (Host.shli v (splat (constantI S_ 32 l))) (Host.shrui v (splat (constantI S_ 32 r)))

/-- One round. -/
def round (l r : BitVec 32) (s : V5 × V5) : V5 × V5 := (addi s.1 s.2, xori (addi s.1 s.2) (turn s.2 l r))

/-- The four rounds of the first rotation schedule. -/
def roundsA (s : V5 × V5) : V5 × V5 := round 6#32 26#32 (round 26#32 6#32 (round 15#32 17#32 (round 13#32 19#32 s)))

/-- The four rounds of the second rotation schedule. -/
def roundsB (s : V5 × V5) : V5 × V5 := round 24#32 8#32 (round 16#32 16#32 (round 29#32 3#32 (round 17#32 15#32 s)))

/-- The key words and the group's number added to the two words. -/
def inject (k k' : IVec S_ 32) (g : BitVec 32) (s : V5 × V5) : V5 × V5 :=
  (addi s.1 (splat k), addi (addi s.2 (splat k')) (splat (constantI S_ 32 g)))

/-- The third key word. -/
def thirdKey (k₀ k₁ : IVec S_ 32) : IVec S_ 32 := xori (xori k₀ k₁) (constantI S_ 32 466688986#32)

/-- The generator: five groups of rounds on the counter's words with the key added, the key words added after each. -/
def threefry (k₀ k₁ : IVec S_ 32) (hi lo : V5) : V5 × V5 :=
  inject (thirdKey k₀ k₁) k₀ 5#32 (roundsA (inject k₁ (thirdKey k₀ k₁) 4#32 (roundsB (inject k₀ k₁ 3#32 (roundsA
    (inject (thirdKey k₀ k₁) k₀ 2#32 (roundsB (inject k₁ (thirdKey k₀ k₁) 1#32 (roundsA
      (addi hi (splat k₀), addi lo (splat k₁)))))))))))

/-- The generator's operations at the buffers of the reference's one call. -/
abbrev generator : Ops F :=
  threefryOps main_call0.v5 main_call0.v7 main_call0.v30 main_call0.v29 main_call0_call0

set_option maxHeartbeats 4000000 in
/-- The generator's first word. -/
theorem threefry_fst (W : Valuation τ sig (Elt F)) :
    after generator W (Proc.devRef .tc main_call0_v31_0)
      = (threefry (W (Proc.devRef .tc main_call0_v5)) (W (Proc.devRef .tc main_call0_v7)) (W (Proc.devRef .tc main_call0_v30))
          (W (Proc.devRef .tc main_call0_v29))).1 := by
  simp only [generator, threefryOps, startOps, firstOps, secondOps, thirdOps, fourthOps, fifthOps, roundOps, injectOps,
    List.cons_append, List.nil_append, main_call0_call0, main_call0, TRef.unary, TRef.binary, TRef.nullary, TRef.toBuf, TRef.ofBuf, cast_eq]
  after_results_simp
  simp only [threefry, thirdKey, inject, roundsA, roundsB, round, turn, splat]

set_option maxHeartbeats 4000000 in
/-- The generator's second word. -/
theorem threefry_snd (W : Valuation τ sig (Elt F)) :
    after generator W (Proc.devRef .tc main_call0_v31_1)
      = (threefry (W (Proc.devRef .tc main_call0_v5)) (W (Proc.devRef .tc main_call0_v7)) (W (Proc.devRef .tc main_call0_v30))
          (W (Proc.devRef .tc main_call0_v29))).2 := by
  simp only [generator, threefryOps, startOps, firstOps, secondOps, thirdOps, fourthOps, fifthOps, roundOps, injectOps,
    List.cons_append, List.nil_append, main_call0_call0, main_call0, TRef.unary, TRef.binary, TRef.nullary, TRef.toBuf, TRef.ofBuf, cast_eq]
  after_results_simp
  simp only [threefry, thirdKey, inject, roundsA, roundsB, round, turn, splat]

/-- The buffers of the other stretches that the generator leaves as they are. -/
abbrev kept : List (Ref sig .tc) := [main_arg0, main_v2, main_call0_v2, main_call0_v3]

set_option maxHeartbeats 4000000 in
theorem threefry_keep (W : Valuation τ sig (Elt F)) :
    ∀ r ∈ kept, after generator W (Proc.devRef .tc r) = W (Proc.devRef .tc r) := by
  simp only [kept, List.forall_mem_cons]
  simp only [generator, threefryOps, startOps, firstOps, secondOps, thirdOps, fourthOps, fifthOps, roundOps, injectOps,
    List.cons_append, List.nil_append, main_call0_call0, main_call0, TRef.unary, TRef.binary, TRef.nullary, TRef.toBuf, TRef.ofBuf, cast_eq]
  refine ⟨?_, ?_, ?_, ?_, fun _ h => nomatch h⟩ <;> after_results_simp

/-! ## Before the generator -/

/-- The operations before the generator, at the buffers of the reference's one call. -/
abbrev before : Ops F := headOps ++ counterOps (.of main_v9) (.of main_cst) (.of main_cst_2) main_call0

/-- Each region's four candidates, along a last axis. -/
def patches (x : FVec F S16x384x224x224 .f32) : FVec F S16x384x112x112x4 .f32 :=
  shapeCast S16x384x112x112x4 (transpose S16x384x112x112x2x2 [0, 1, 2, 4, 3, 5]
    (shapeCast S16x384x112x2x112x2 x shapeCasts_S16x384x224x224_S16x384x112x2x112x2)
    transposes_S16x384x112x2x112x2_S16x384x112x112x2x2_0_1_2_4_3_5) shapeCasts_S16x384x112x112x2x2_S16x384x112x112x4

/-- The seed's two words. -/
def seed : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The key's first word. -/
def keyFst : IVec S_ 32 := shapeCast S_ (extractStridedSlice S1 ![0] seed slices_S2_S1_0) shapeCasts_S1_S_

/-- The key's second word. -/
def keySnd : IVec S_ 32 := shapeCast S_ (extractStridedSlice S1 ![1] seed slices_S2_S1_1) shapeCasts_S1_S_

/-- A candidate's coordinate along one axis, times the number of candidates one step along it passes. -/
def strided (k : BitVec 64) (a : Fin S16x384x112x112x4.rank) : IVec S16x384x112x112x4 64 :=
  muli (broadcastInDim S16x384x112x112x4 ![] bcast_S_S16x384x112x112x4 (constantI S_ 64 k)) (iotaInDim S16x384x112x112x4 64 a)

/-- Each candidate's position in row-major order. -/
def position : IVec S16x384x112x112x4 64 :=
  addi (addi (addi (addi (strided 19267584#64 0) (strided 50176#64 1)) (strided 448#64 2)) (strided 4#64 3)) (strided 1#64 4)

/-- The position's high word. -/
def positionHi : V5 :=
  trunci 32 (Host.shrui position (broadcastInDim S16x384x112x112x4 ![] bcast_S_S16x384x112x112x4 (constantI S_ 64 32#64))) natLt_32_64

/-- The position's low word. -/
def positionLo : V5 := trunci 32 position natLt_32_64

/-- A bound of the uniform numbers. -/
def bound (b : BitVec 32) : FVec F S1x1x1x1x1 .f32 :=
  broadcastInDim S1x1x1x1x1 ![] bcast_S_S1x1x1x1x1 (constant S_ .f32 b)

set_option maxHeartbeats 2000000 in
/-- What the operations before the generator leave: the candidates, the bounds, the key and the positions. -/
theorem before_read (W : Valuation τ sig (Elt F)) :
    after before W (Proc.devRef .tc main_arg0) = W (Proc.devRef .tc main_arg0)
    ∧ after before W (Proc.devRef .tc main_v2) = patches (W (Proc.devRef .tc main_arg0))
    ∧ after before W (Proc.devRef .tc main_call0_v2) = (bound 0x00000000#32 : FVec F S1x1x1x1x1 .f32)
    ∧ after before W (Proc.devRef .tc main_call0_v3) = (bound 0x3F800000#32 : FVec F S1x1x1x1x1 .f32)
    ∧ after before W (Proc.devRef .tc main_call0_v5) = keyFst
    ∧ after before W (Proc.devRef .tc main_call0_v7) = keySnd
    ∧ after before W (Proc.devRef .tc main_call0_v30) = positionHi
    ∧ after before W (Proc.devRef .tc main_call0_v29) = positionLo := by
  simp only [before, headOps, counterOps, List.cons_append, List.nil_append, main_call0_call0, main_call0, TRef.unary, TRef.binary,
    TRef.nullary, TRef.reshape, TRef.toBuf, TRef.ofBuf, cast_eq]
  refine ⟨?_, ?_, ?_, ?_, ?_, ?_, ?_, ?_⟩ <;> after_results_simp
  all_goals rfl

/-! ## After the generator -/

/-- The operations after the generator, at the buffers of the reference's calls. -/
abbrev behind : Ops F :=
  floatOps main_call0 ++ (scoreOps ++ (argmaxOps (.of main_v17) main_call1 ++
    (unitOps ++ (takeOps (.of main_v2) (.of main_v19) main_call2 ++ resultOps))))

/-- A bound at every candidate. -/
def spread (b : FVec F S1x1x1x1x1 .f32) : FVec F S16x384x112x112x4 .f32 :=
  broadcastInDim S16x384x112x112x4 ![0, 1, 2, 3, 4] bcast_S1x1x1x1x1_S16x384x112x112x4_0_1_2_3_4 b

/-- A number at every candidate. -/
def splatF (b : BitVec 32) : FVec F S16x384x112x112x4 .f32 :=
  broadcastInDim S16x384x112x112x4 ![] bcast_S_S16x384x112x112x4 (constant S_ .f32 b)

/-- The uniform numbers of random bits: a number of [0, 1) from the upper 23, scaled to the bounds. -/
def uniform (lo hi : FVec F S1x1x1x1x1 .f32) (b : V5) : FVec F S16x384x112x112x4 .f32 :=
  maximumf (spread lo) (addf (mulf (subf (bitcastToFloat .f32
    (ori (Host.shrui b (splat (constantI S_ 32 9#32))) (splat (constantI S_ 32 1065353216#32)))) (splatF 0x3F800000#32))
    (spread (subf hi lo))) (spread lo))

/-- The candidates' scores: the Gumbel noise of uniform numbers, kept above the least normal one, plus the values. -/
def scores (u p : FVec F S16x384x112x112x4 .f32) : FVec F S16x384x112x112x4 .f32 :=
  addf (Host.negf (Host.log (Host.negf (Host.log (maximumf u (splatF 0x00800000#32)))))) p

/-- The place of each region's first greatest score. -/
def place (s : FVec F S16x384x112x112x4 .f32) : IVec S16x384x112x112 32 := fun j =>
  (Host.argReduce reducer_argmax_f32_i32 s (iotaInDim S16x384x112x112x4 32 4) (constant S_ .f32 0xFF800000#32) (constantI S_ 32 0#32)
    reducesTo_S16x384x112x112x4_S16x384x112x112_d4 h_S_ j).2

/-- The places with a unit axis. -/
def place1 (i : IVec S16x384x112x112 32) : IVec S16x384x112x112x1 32 :=
  broadcastInDim S16x384x112x112x1 ![0, 1, 2, 3] bcast_S16x384x112x112_S16x384x112x112x1_0_1_2_3 i

/-- The places with two unit axes, a negative one counted from the end. -/
def place2 (i : IVec S16x384x112x112x1 32) : IVec S16x384x112x112x1x1 32 :=
  shapeCast S16x384x112x112x1x1 (select (cmpi .slt i (broadcastInDim S16x384x112x112x1 ![] bcast_S_S16x384x112x112x1 (constantI S_ 32 0#32)))
    (addi i (broadcastInDim S16x384x112x112x1 ![] bcast_S_S16x384x112x112x1 (constantI S_ 32 4#32))) i)
    shapeCasts_S16x384x112x112x1_S16x384x112x112x1x1

/-- Which places are at most three and not negative. -/
def inRange (i : IVec S16x384x112x112x1x1 32) : IVec S16x384x112x112x1 1 :=
  Host.reduce IntOp.andi (andi (cmpi .sge i (broadcastInDim S16x384x112x112x1x1 ![] bcast_S_S16x384x112x112x1x1 (constantI S_ 32 0#32)))
    (cmpi .sle i (broadcastInDim S16x384x112x112x1x1 ![0, 1, 2, 3, 4, 5] bcast_S1x1x1x1x1x1_S16x384x112x112x1x1_0_1_2_3_4_5
      (broadcastInDim S1x1x1x1x1x1 ![5] bcast_S1_S1x1x1x1x1x1_5 (constantI S1 32 3#32)))))
    (constantI S_ 1 1#1) reducesTo_S16x384x112x112x1x1_S16x384x112x112x1_d5 h_S_

/-- The candidates at the places, where these are in range. -/
def taken (p : FVec F S16x384x112x112x4 .f32) (i : IVec S16x384x112x112x1x1 32) : FVec F S16x384x112x112x1 .f32 :=
  select (inRange i) (Host.gather gather_S16x384x112x112x4_S16x384x112x112x1x1_S16x384x112x112x1_n_4_0123_0123_4_5_11111 p i)
    (broadcastInDim S16x384x112x112x1 ![] bcast_S_S16x384x112x112x1 (constant S_ .f32 0x7FC00000#32))

/-- The picked value of each region, from the candidates and their scores. -/
def picked (p s : FVec F S16x384x112x112x4 .f32) : FVec F S16x384x112x112 .f32 :=
  shapeCast S16x384x112x112 (taken p (place2 (place1 (place s)))) shapeCasts_S16x384x112x112x1_S16x384x112x112

set_option maxHeartbeats 4000000 in
/-- What the operations after the generator leave in the result. -/
theorem behind_read (W : Valuation τ sig (Elt F)) :
    after behind W (Proc.devRef .tc main_v21)
      = picked (W (Proc.devRef .tc main_v2)) (scores (uniform (W (Proc.devRef .tc main_call0_v2)) (W (Proc.devRef .tc main_call0_v3))
          (xori (W (Proc.devRef .tc main_call0_v31_0)) (W (Proc.devRef .tc main_call0_v31_1)))) (W (Proc.devRef .tc main_v2))) := by
  simp only [behind, floatOps, scoreOps, argmaxOps, unitOps, takeOps, resultOps, List.cons_append, List.nil_append, main_call0_call0,
    main_call0, main_call1, main_call2, TRef.unary, TRef.binary, TRef.nullary, TRef.ternary, TRef.quaternary, TRef.reshape, TRef.toBuf,
    TRef.ofBuf, cast_eq]
  after_results_simp
  rfl

set_option maxHeartbeats 4000000 in
/-- The operations after the generator leave the argument as it is. -/
theorem behind_keep (W : Valuation τ sig (Elt F)) :
    after behind W (Proc.devRef .tc main_arg0) = W (Proc.devRef .tc main_arg0) := by
  simp only [behind, floatOps, scoreOps, argmaxOps, unitOps, takeOps, resultOps, List.cons_append, List.nil_append, main_call0_call0,
    main_call0, main_call1, main_call2, TRef.unary, TRef.binary, TRef.nullary, TRef.ternary, TRef.quaternary, TRef.reshape, TRef.toBuf,
    TRef.ofBuf, cast_eq]
  after_results_simp

/-! ## The whole line -/

/-- The line is the three stretches. -/
theorem ops_eq : (ops : Ops F) = before ++ (generator ++ behind) := by
  simp only [ops, before, generator, behind, uniformOps, List.append_assoc]

/-- The random bits of every candidate. -/
def randomBits : V5 := xori (threefry keyFst keySnd positionHi positionLo).1 (threefry keyFst keySnd positionHi positionLo).2

/-- The reference's result, from its argument. -/
def result (x : FVec F S16x384x224x224 .f32) : FVec F S16x384x112x112 .f32 :=
  picked (patches x) (scores (uniform (bound 0x00000000#32) (bound 0x3F800000#32) randomBits) (patches x))

/-- What the line leaves in the result. -/
theorem ops_read (W : Valuation τ sig (Elt F)) :
    after ops W (Proc.devRef .tc main_v21) = result (W (Proc.devRef .tc main_arg0)) := by
  obtain ⟨-, h2, h3, h4, h5, h6, h7, h8⟩ := before_read W
  have k := threefry_keep (after before W)
  rw [ops_eq, after_append, after_append, behind_read, k main_v2 (by decide), k main_call0_v2 (by decide), k main_call0_v3 (by decide),
    threefry_fst, threefry_snd, h2, h3, h4, h5, h6, h7, h8]
  rfl

/-- The line leaves the argument as it is. -/
theorem ops_keep (W : Valuation τ sig (Elt F)) :
    after ops W (Proc.devRef .tc main_arg0) = W (Proc.devRef .tc main_arg0) := by
  rw [ops_eq, after_append, after_append, behind_keep, threefry_keep _ main_arg0 (by decide), (before_read W).1]

end Cert.ReferenceIdeal.Line

end
-- ==== Proof.RefRun.lean ====
/-
  The reference's run: its result array and its argument array at the end.
-/
module

public import proofs.«01_k».proof.Proof.RefRead

@[expose] public section

set_option maxRecDepth 16384
set_option Elab.async false

noncomputable section

namespace Cert.ReferenceIdeal.Line

open Idealize.ShloMosaic Idealize.ShloMosaic.TcCoe Idealize.SL.Sem Idealize.ShloMosaic.StableHlo
open Cert.ReferenceIdeal Cert.ReferenceIdeal.Gen

variable {F : FTy → Type} [FloatOps F]

/-- What an operation of the line satisfies: it works on the core's own buffers and determines its results. -/
def Plain (op : HloOp τ sig (Elt F)) : Prop := op.bufs ⊆ tcRefs τ sig ∧ op.fresh = ∅

/-- A round's operations are plain. -/
theorem roundOps_plain (x y : Words) (l r : BitVec 32) (s : Words) (c : Word) (b t : Words) (c' : Word) (b' t' o n : Words) :
    (roundOps (F := F) x y l r s c b t c' b' t' o n).Forall Plain :=
  ⟨⟨binary_bufs_sub .., rfl⟩, ⟨nullary_bufs_sub .., rfl⟩, ⟨unary_bufs_sub .., rfl⟩, ⟨binary_bufs_sub .., rfl⟩, ⟨nullary_bufs_sub .., rfl⟩,
    ⟨unary_bufs_sub .., rfl⟩, ⟨binary_bufs_sub .., rfl⟩, ⟨binary_bufs_sub .., rfl⟩, ⟨binary_bufs_sub .., rfl⟩⟩

/-- The operations that add the key words are plain. -/
theorem injectOps_plain (k k' c : Word) (g : BitVec 32) (x y b s b' t b'' n : Words) :
    (injectOps (F := F) k k' c g x y b s b' t b'' n).Forall Plain :=
  ⟨⟨unary_bufs_sub .., rfl⟩, ⟨binary_bufs_sub .., rfl⟩, ⟨unary_bufs_sub .., rfl⟩, ⟨binary_bufs_sub .., rfl⟩, ⟨nullary_bufs_sub .., rfl⟩,
    ⟨unary_bufs_sub .., rfl⟩, ⟨binary_bufs_sub .., rfl⟩⟩

/-- The generator's operations are plain. -/
theorem threefryOps_plain (k₀ k₁ : Word) (hi lo : Words) (φ : fn_threefry2x32.Bufs) :
    (threefryOps (F := F) k₀ k₁ hi lo φ).Forall Plain := by
  simp only [threefryOps, firstOps, secondOps, thirdOps, fourthOps, fifthOps, List.forall_append, roundOps_plain, injectOps_plain, and_true]
  exact ⟨⟨binary_bufs_sub .., rfl⟩, ⟨nullary_bufs_sub .., rfl⟩, ⟨binary_bufs_sub .., rfl⟩, ⟨unary_bufs_sub .., rfl⟩, ⟨binary_bufs_sub .., rfl⟩,
    ⟨unary_bufs_sub .., rfl⟩, ⟨binary_bufs_sub .., rfl⟩⟩

/-- Every operation of the line is plain. -/
theorem ops_plain : (ops : Ops F).Forall Plain := by
  simp only [ops, uniformOps, List.forall_append, threefryOps_plain, true_and]
  simp only [headOps, counterOps, floatOps, scoreOps, argmaxOps, unitOps, takeOps, resultOps, List.forall_cons, List.Forall, Plain,
    TRef.unary, TRef.binary, TRef.nullary, TRef.ternary, TRef.quaternary, TRef.reshape, unary_bufs_sub, binary_bufs_sub, nullary_bufs_sub,
    ternary_bufs_sub, quaternary_bufs_sub, reshape_bufs_sub, true_and, and_true]
  repeat' constructor

/-- The program scopes no array … -/
theorem scopedRefs_eq : (Finset.univ.filter fun b : Ref sig .tc => b.isScoped) = ∅ := by decide

/-- … and no semaphore. -/
theorem scopedSems_eq : (Finset.univ.filter fun sm : SemLoc sig => sm.isScoped .tc) = ∅ := by decide

/-- Every run ends with the result array at the reference's value of the argument array, and that unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = result (m ((c.tc : Thread nD τ).loc main_arg0))
      ∧ r.2.mem ((c.tc : Thread nD τ).loc main_arg0) = m ((c.tc : Thread nD τ).loc main_arg0) :=
  (θ_run defs _ _).mono (fun _ h c => ⟨(h c main_v21).trans (ops_read _), (h c main_arg0).trans (ops_keep _)⟩)
    (run_seq scopedRefs_eq scopedSems_eq defs main (fun _ => ops) main_eq
      (fun _ => List.forall_iff_forall_mem.2 fun op h => (List.forall_iff_forall_mem.1 ops_plain op h).1) m ρ
      (fun _ op h => (List.forall_iff_forall_mem.1 ops_plain op h).2))

end Cert.ReferenceIdeal.Line

end
-- ==== Proof.Row.lean ====
/-
  What the kernel stores for one output row of a block, as one function of the row's number, the two input rows above it
  and the selection matrix. The kernel writes its sixteen rows out one after the other; each of the sixteen stored values is
  this one function (`out_eq`).
-/
module

public import proofs.«01_k».proof.Proof.Gen.KernelIdeal.Frame
public import Idealize.ShloMosaic.Lib.Pointwise

@[expose] public section

noncomputable section

namespace Cert.KernelIdeal.Row

open Idealize.ShloMosaic Idealize.SL.Sem
open Cert.KernelIdeal Cert.KernelIdeal.Gen

variable {F : FTy → Type} [FloatOps F]

/-- A row of 112 words for each of a block's 128 images. -/
abbrev Words := IVec S128x112 32

/-- Each word turned left by `l` bits, `r` being the rest of the word's width. -/
def turn (v : Words) (l r : BitVec 32) : Words :=
  ori (shli v (broadcast S128x112 l)) (shrui v (broadcast S128x112 r))

/-- One round of the generator on its two words: the first becomes their sum, the second is turned and xored with it. -/
def round (l r : BitVec 32) (s : Words × Words) : Words × Words :=
  (addi s.1 s.2, xori (addi s.1 s.2) (turn s.2 l r))

/-- The rounds of the first rotation schedule but the first one. -/
def lastThree (s : Words × Words) : Words × Words :=
  round 6#32 26#32 (round 26#32 6#32 (round 15#32 17#32 s))

/-- The four rounds of the first rotation schedule. -/
def roundsA (s : Words × Words) : Words × Words := lastThree (round 13#32 19#32 s)

/-- The four rounds of the second rotation schedule. -/
def roundsB (s : Words × Words) : Words × Words :=
  round 24#32 8#32 (round 16#32 16#32 (round 29#32 3#32 (round 17#32 15#32 s)))

/-- The key words added to the two words between the groups of rounds. -/
def inject (k₀ k₁ : BitVec 32) (s : Words × Words) : Words × Words :=
  (addi s.1 (broadcast S128x112 k₀), addi s.2 (broadcast S128x112 k₁))

/-- The same where the first key word is zero, and is not added. -/
def injectSnd (k₁ : BitVec 32) (s : Words × Words) : Words × Words :=
  (s.1, addi s.2 (broadcast S128x112 k₁))

/-- The first group of rounds on a counter: the first word starts as the second, which is the counter plus the key. -/
def start (w : Words) : Words × Words :=
  lastThree (addi w (broadcast S128x112 42#32),
    xori (turn (addi w (broadcast S128x112 42#32)) 13#32 19#32) (addi w (broadcast S128x112 42#32)))

/-- All five groups of rounds on a counter. -/
def groups (w : Words) : Words × Words :=
  inject 466689008#32 5#32 (roundsA (inject 42#32 466689012#32 (roundsB (injectSnd 45#32 (roundsA
    (inject 466689008#32 2#32 (roundsB (inject 42#32 466689009#32 (start w)))))))))

/-- The random bits the kernel draws for the counters `w`. -/
def bits (w : Words) : Words := xori (groups w).1 (groups w).2

/-- The Gumbel noise of random bits: a number of [0, 1) from their upper 23, kept above the least normal one, `-log (-log u)`. -/
def noise (b : Words) : FVec F S128x112 .f32 :=
  subf (broadcast S128x112 (Scalar.ofBits .f32 0x00000000#32)) (log (subf (broadcast S128x112 (Scalar.ofBits .f32 0x00000000#32))
    (log (maximumf (subf (bitcastToFloat .f32 (ori (shrui b (broadcast S128x112 9#32)) (broadcast S128x112 1065353216#32)))
      (broadcast S128x112 (Scalar.ofBits .f32 0x3F800000#32))) (broadcast S128x112 (Scalar.ofBits .f32 0x00800000#32))))))

/-- The counters of a block's images and columns, before the row's part is added. -/
def imageBase (i : grid0.Coords) : Words :=
  addi (muli (addi (broadcast S128x112 (Scalar.muli (BitVec.ofNat 32 (i 0).val) 128#32)) (iota .tc S128x112 32 [0] iota_S128x112_d0_w32))
    (broadcast S128x112 50176#32)) (shli (iota .tc S128x112 32 [1] iota_S128x112_d1_w32) (broadcast S128x112 2#32))

/-- The counter of a row's first candidates. -/
def rowBase (i : grid0.Coords) (j : BitVec 32) : Words :=
  addi (imageBase i) (broadcast S128x112 (Scalar.muli (Scalar.muli (Scalar.addi (Scalar.muli (BitVec.ofNat 32 (i 1).val) 16#32) j) 112#32) 4#32))

/-- An input row multiplied by the selection matrix. -/
def product (s : Vec F S224x256 .f32) (x : Vec F S128x1x224 .f32) : FVec F S128x256 .f32 :=
  matmul dot_S128x224_S224x256_S128x256_1_0_0_1_n_n (some .fp32) (shapeCast S128x224 x shapeCasts_S128x1x224_S128x224)
    (shapeCast S224x256 s shapeCasts_S224x256_S224x256) (constant S128x256 .f32 0x00000000#32)

/-- The product's first 112 columns. -/
def evens (s : Vec F S224x256 .f32) (x : Vec F S128x1x224 .f32) : FVec F S128x112 .f32 :=
  extractStridedSlice S128x112 ![0, 0] (product s x) slices_S128x256_o0_0_S128x112

/-- The product's 112 columns from 128 on. -/
def odds (s : Vec F S224x256 .f32) (x : Vec F S128x1x224 .f32) : FVec F S128x112 .f32 :=
  extractStridedSlice S128x112 ![0, 128] (product s x) slices_S128x256_o0_128_S128x112

/-- The best score so far and the value it belongs to, after the candidate `p` with the counters `w`. -/
def better (p : FVec F S128x112 .f32) (w : Words) (b : FVec F S128x112 .f32 × FVec F S128x112 .f32) :
    FVec F S128x112 .f32 × FVec F S128x112 .f32 :=
  (select (cmpf .ogt (addf p (noise (bits w))) b.1) (addf p (noise (bits w))) b.1,
   select (cmpf .ogt (addf p (noise (bits w))) b.1) p b.2)

/-- The value picked among a region's four candidates. -/
def pick (w : Words) (p₀ p₁ p₂ p₃ : FVec F S128x112 .f32) : FVec F S128x112 .f32 :=
  (better p₃ (addi w (broadcast S128x112 3#32)) (better p₂ (addi w (broadcast S128x112 2#32))
    (better p₁ (addi w (broadcast S128x112 1#32)) (addf p₀ (noise (bits w)), p₀)))).2

/-- What the kernel stores for row `j` of block `i`, from the selection matrix and the two input rows. -/
def stored (i : grid0.Coords) (j : BitVec 32) (s : Vec F S224x256 .f32) (x y : Vec F S128x1x224 .f32) : FVec F S128x1x112 .f32 :=
  shapeCast S128x1x112 (pick (rowBase i j) (evens s x) (odds s x) (evens s y) (odds s y)) shapeCasts_S128x112_S128x1x112

set_option maxRecDepth 65536 in
set_option maxHeartbeats 0 in
/-- What the body leaves in the output's block: sixteen stored rows. -/
theorem out_eq (i : grid0.Coords) (x0 : Vec F S128x32x224 .f32) (x1 : Vec F S224x256 .f32) :
    out0_2 i x0 x1 = View.canon [
      ⟨r0_48, stored i 15#32 (View.ld x1 r0_0) (View.ld x0 r0_46) (View.ld x0 r0_47)⟩,
      ⟨r0_45, stored i 14#32 (View.ld x1 r0_0) (View.ld x0 r0_43) (View.ld x0 r0_44)⟩,
      ⟨r0_42, stored i 13#32 (View.ld x1 r0_0) (View.ld x0 r0_40) (View.ld x0 r0_41)⟩,
      ⟨r0_39, stored i 12#32 (View.ld x1 r0_0) (View.ld x0 r0_37) (View.ld x0 r0_38)⟩,
      ⟨r0_36, stored i 11#32 (View.ld x1 r0_0) (View.ld x0 r0_34) (View.ld x0 r0_35)⟩,
      ⟨r0_33, stored i 10#32 (View.ld x1 r0_0) (View.ld x0 r0_31) (View.ld x0 r0_32)⟩,
      ⟨r0_30, stored i 9#32 (View.ld x1 r0_0) (View.ld x0 r0_28) (View.ld x0 r0_29)⟩,
      ⟨r0_27, stored i 8#32 (View.ld x1 r0_0) (View.ld x0 r0_25) (View.ld x0 r0_26)⟩,
      ⟨r0_24, stored i 7#32 (View.ld x1 r0_0) (View.ld x0 r0_22) (View.ld x0 r0_23)⟩,
      ⟨r0_21, stored i 6#32 (View.ld x1 r0_0) (View.ld x0 r0_19) (View.ld x0 r0_20)⟩,
      ⟨r0_18, stored i 5#32 (View.ld x1 r0_0) (View.ld x0 r0_16) (View.ld x0 r0_17)⟩,
      ⟨r0_15, stored i 4#32 (View.ld x1 r0_0) (View.ld x0 r0_13) (View.ld x0 r0_14)⟩,
      ⟨r0_12, stored i 3#32 (View.ld x1 r0_0) (View.ld x0 r0_10) (View.ld x0 r0_11)⟩,
      ⟨r0_9, stored i 2#32 (View.ld x1 r0_0) (View.ld x0 r0_7) (View.ld x0 r0_8)⟩,
      ⟨r0_6, stored i 1#32 (View.ld x1 r0_0) (View.ld x0 r0_4) (View.ld x0 r0_5)⟩,
      ⟨r0_3, stored i 0#32 (View.ld x1 r0_0) (View.ld x0 r0_1) (View.ld x0 r0_2)⟩] := by
  unfold out0_2
  iterate 40 unfold_payloads
  simp only [stored, pick, better, rowBase, imageBase, evens, odds, product, noise, bits, groups, inject, injectSnd, start, lastThree,
    roundsA, roundsB, round, turn]

end Cert.KernelIdeal.Row

end
-- ==== Proof.Word.lean ====
/-
  One candidate's word and score, and the choice among four: the arithmetic both programs do at an index, without arrays.
-/
module

public import Idealize.ShloMosaic.PureOps.Ideal
public import Idealize.ShloMosaic.PureOps.Ideal.Laws
public import Idealize.ShloMosaic.Lib.IdealHost

@[expose] public section

noncomputable section

namespace Cert.Word

open Idealize.ShloMosaic

/-- One word. -/
abbrev W := BitVec 32

/-! ## The random bits of a counter -/

/-- A word turned left by `l` bits, `r` being the rest of the width. -/
def turn (v l r : W) : W := v <<< l ||| v >>> r

/-- One round of the generator. -/
def round (l r : W) (s : W × W) : W × W := (s.1 + s.2, (s.1 + s.2) ^^^ turn s.2 l r)

/-- The four rounds of the first rotation schedule. -/
def roundsA (s : W × W) : W × W := round 6#32 26#32 (round 26#32 6#32 (round 15#32 17#32 (round 13#32 19#32 s)))

/-- The four rounds of the second rotation schedule. -/
def roundsB (s : W × W) : W × W := round 24#32 8#32 (round 16#32 16#32 (round 29#32 3#32 (round 17#32 15#32 s)))

/-- Two words added to the two words. -/
def inject (k k' : W) (s : W × W) : W × W := (s.1 + k, s.2 + k')

/-- The third key word. -/
def thirdKey (k₀ k₁ : W) : W := k₀ ^^^ k₁ ^^^ 466688986#32

/-- The generator with the key `k₀`, `k₁` on the counter `hi`, `lo`. -/
def threefry (k₀ k₁ hi lo : W) : W × W :=
  inject (thirdKey k₀ k₁) (k₀ + 5#32) (roundsA (inject k₁ (thirdKey k₀ k₁ + 4#32) (roundsB (inject k₀ (k₁ + 3#32) (roundsA
    (inject (thirdKey k₀ k₁) (k₀ + 2#32) (roundsB (inject k₁ (thirdKey k₀ k₁ + 1#32) (roundsA (hi + k₀, lo + k₁))))))))))

/-- The random bits of the counter `n`: the two words of the generator with the key (0, 42), xored. -/
def drawn (n : W) : W := (threefry 0#32 42#32 0#32 n).1 ^^^ (threefry 0#32 42#32 0#32 n).2

/-- The first group of rounds with the key's zero word left out: the first word starts as the second. -/
def start (n : W) : W × W :=
  round 6#32 26#32 (round 26#32 6#32 (round 15#32 17#32 (n + 42#32, turn (n + 42#32) 13#32 19#32 ^^^ (n + 42#32))))

/-- All five groups with the key's words written out. -/
def folded (n : W) : W × W :=
  inject 466689008#32 5#32 (roundsA (inject 42#32 466689012#32 (roundsB ((fun s : W × W => (s.1, s.2 + 45#32)) (roundsA
    (inject 466689008#32 2#32 (roundsB (inject 42#32 466689009#32 (start n)))))))))

/-- Leaving out the first word's zero changes nothing in the first group of rounds. -/
theorem start_eq (n : W) : start n = roundsA (0#32 + 0#32, n + 42#32) := by
  have e : round 13#32 19#32 (0#32 + 0#32, n + 42#32) = (n + 42#32, turn (n + 42#32) 13#32 19#32 ^^^ (n + 42#32)) := by
    simp only [round, BitVec.zero_add, BitVec.xor_comm]
  rw [start, roundsA, e]

/-- The generator with the key's words written out is the generator at the key (0, 42). -/
theorem folded_eq (n : W) : folded n = threefry 0#32 42#32 0#32 n := by
  have h : thirdKey 0#32 42#32 = 466689008#32 := by decide
  have i (s : W × W) : inject 0#32 (42#32 + 3#32) s = (s.1, s.2 + 45#32) := by
    rw [inject, BitVec.add_zero]; rfl
  rw [threefry, folded, h, i, ← start_eq]
  rfl

/-! ## The score -/

/-- The number of [0, 1) that random bits' upper 23 spell. -/
def unit (b : W) : EReal :=
  Ideal.ofBits .f32 (b >>> 9#32 ||| 1065353216#32) - Ideal.ofBits .f32 0x3F800000#32

/-- The least normal number, which bounds the uniform numbers below. -/
def tiny : EReal := Ideal.ofBits .f32 0x00800000#32

/-- The Gumbel noise of random bits. -/
def noise (b : W) : EReal := -Ideal.log (-Ideal.log (max (unit b) tiny))

/-- The score of a candidate of value `p` at the counter `n`. -/
def score (n : W) (p : EReal) : EReal := p + noise (drawn n)

/-- The least normal number is not negative. -/
theorem tiny_nonneg : 0 ≤ tiny := by
  unfold tiny
  simp [Ideal.ofBits, Ideal.ieee, -EReal.coe_mul]

/-- Scaling a number to the bounds 0 and 1 and cutting it off below at 0 is nothing where it is then cut off at a greater bound. -/
theorem scaled (f : EReal) :
    max (max (Ideal.ofBits .f32 0x00000000#32) (f * (Ideal.ofBits .f32 0x3F800000#32 - Ideal.ofBits .f32 0x00000000#32)
      + Ideal.ofBits .f32 0x00000000#32)) tiny = max f tiny := by
  rw [Ideal.ofBits_zero_f32, Ideal.ofBits_one_f32, sub_zero, mul_one, add_zero, max_comm 0 f, max_assoc, max_eq_right tiny_nonneg]

/-! ## The choice -/

/-- The best score so far and its value, after a candidate of score `s` and value `p`. -/
def better (s p : EReal) (b : EReal × EReal) : EReal × EReal := if b.1 < s then (s, p) else b

/-- The value of the first greatest score among four. -/
def first (s p : Fin 4 → EReal) : EReal := (better (s 3) (p 3) (better (s 2) (p 2) (better (s 1) (p 1) (s 0, p 0)))).2

/-- What a region of four candidates gives, the first one's counter being `n`. -/
def chosen (n : W) (p : Fin 4 → EReal) : EReal := first (fun k => score (n + BitVec.ofNat 32 k) (p k)) p

end Cert.Word

end
-- ==== Proof.RowValue.lean ====
/-
  What the kernel stores for one row, read at an index: the choice among the four candidates found there.
-/
module

public import proofs.«01_k».proof.Proof.Row
public import proofs.«01_k».proof.Proof.Word
public import Idealize.ShloMosaic.Lib.Pipeline.Value
public import Idealize.ShloMosaic.Lib.MatmulPlain
public import Idealize.ShloMosaic.Lib.Pointwise

@[expose] public section

noncomputable section

namespace Cert.KernelIdeal.Row

open Idealize.ShloMosaic Cert.KernelIdeal Cert.KernelIdeal.Gen

/-! ## The random bits -/

/-- The two words at an index. -/
def at' (s : Words × Words) (i : S128x112.Idx) : Word.W × Word.W := (s.1 i, s.2 i)

/-- A turned word at an index is the turned word there. -/
theorem turn_apply (v : Words) (l r : BitVec 32) (hl : l.toNat < 32) (hr : r.toNat < 32) (i : S128x112.Idx) :
    turn v l r i = Word.turn (v i) l r := by
  show IntOp.ori (IntOp.shli .vector (v i) l) (IntOp.shrui .vector (v i) r) = _
  rw [IntOp.shli, IntOp.shrui, if_pos hl, if_pos hr]
  rfl

/-- One round at an index is that round of the words there. -/
theorem round_at (l r : BitVec 32) (hl : l.toNat < 32) (hr : r.toNat < 32) (s : Words × Words) (i : S128x112.Idx) :
    at' (round l r s) i = Word.round l r (at' s i) :=
  Prod.ext rfl (congrArg ((s.1 i + s.2 i) ^^^ ·) (turn_apply s.2 l r hl hr i))

/-- The last three rounds of the first schedule at an index are those of the words there. -/
theorem lastThree_at (s : Words × Words) (i : S128x112.Idx) :
    at' (lastThree s) i = Word.round 6#32 26#32 (Word.round 26#32 6#32 (Word.round 15#32 17#32 (at' s i))) := by
  rw [lastThree, round_at _ _ (by decide) (by decide), round_at _ _ (by decide) (by decide), round_at _ _ (by decide) (by decide)]

/-- The first schedule at an index is that of the words there. -/
theorem roundsA_at (s : Words × Words) (i : S128x112.Idx) : at' (roundsA s) i = Word.roundsA (at' s i) := by
  rw [roundsA, lastThree_at, round_at _ _ (by decide) (by decide)]
  rfl

/-- The second schedule at an index is that of the words there. -/
theorem roundsB_at (s : Words × Words) (i : S128x112.Idx) : at' (roundsB s) i = Word.roundsB (at' s i) := by
  rw [roundsB, round_at _ _ (by decide) (by decide), round_at _ _ (by decide) (by decide), round_at _ _ (by decide) (by decide),
    round_at _ _ (by decide) (by decide)]
  rfl

/-- The first group of rounds at an index is that of the counter there. -/
theorem start_at (w : Words) (i : S128x112.Idx) : at' (start w) i = Word.start (w i) := by
  rw [start, lastThree_at, Word.start]
  refine congrArg (fun s => Word.round _ _ (Word.round _ _ (Word.round _ _ s))) (Prod.ext rfl ?_)
  exact congrArg (· ^^^ (w i + 42#32)) (turn_apply _ _ _ (by decide) (by decide) i)

/-- Adding two words at an index is adding them to the words there. -/
theorem inject_at (k₀ k₁ : BitVec 32) (s : Words × Words) (i : S128x112.Idx) :
    at' (inject k₀ k₁ s) i = Word.inject k₀ k₁ (at' s i) := rfl

/-- Adding a word to the second word alone, at an index. -/
theorem injectSnd_at (k₁ : BitVec 32) (s : Words × Words) (i : S128x112.Idx) :
    at' (injectSnd k₁ s) i = ((at' s i).1, (at' s i).2 + k₁) := rfl

/-- All five groups at an index are those of the counter there. -/
theorem groups_at (w : Words) (i : S128x112.Idx) : at' (groups w) i = Word.folded (w i) := by
  rw [groups, inject_at, roundsA_at, inject_at, roundsB_at, injectSnd_at, roundsA_at, inject_at, roundsB_at, inject_at, start_at]
  rfl

/-- The bits drawn at an index are those of the counter there. -/
theorem bits_apply (w : Words) (i : S128x112.Idx) : bits w i = Word.drawn (w i) := by
  have h := (groups_at w i).trans (Word.folded_eq (w i))
  rw [Word.drawn, ← h]
  rfl

/-! ## The choice -/

/-- The noise at an index is that of the bits there. -/
theorem noise_apply (b : Words) (i : S128x112.Idx) : noise (F := Ideal) b i = Word.noise (b i) := by
  have e : IntOp.shrui .vector (b i) 9#32 = b i >>> 9#32 := by rw [IntOp.shrui, if_pos (by decide)]
  show Ideal.ofBits .f32 0x00000000#32 - Ideal.log (Ideal.ofBits .f32 0x00000000#32 - Ideal.log
    (max (Ideal.ofBits .f32 (IntOp.ori (IntOp.shrui .vector (b i) 9#32) 1065353216#32) - Ideal.ofBits .f32 0x3F800000#32)
      (Ideal.ofBits .f32 0x00800000#32))) = _
  rw [e, Ideal.ofBits_zero_f32, zero_sub, zero_sub]
  rfl

/-- Comparing a candidate at an index is comparing its score and value there. -/
theorem better_at (p : FVec Ideal S128x112 .f32) (w : Words) (b : FVec Ideal S128x112 .f32 × FVec Ideal S128x112 .f32) (i : S128x112.Idx) :
    ((better p w b).1 i, (better p w b).2 i) = Word.better (Word.score (w i) (p i)) (p i) (b.1 i, b.2 i) := by
  have h : addf p (noise (bits w)) i = Word.score (w i) (p i) := by
    show p i + noise (F := Ideal) (bits w) i = _
    rw [noise_apply, bits_apply]; rfl
  show (Scalar.select (Ideal.cmp .ogt (addf p (noise (bits w)) i) (b.1 i)) (addf p (noise (bits w)) i) (b.1 i),
    Scalar.select (Ideal.cmp .ogt (addf p (noise (bits w)) i) (b.1 i)) (p i) (b.2 i)) = _
  rw [h, Word.better]
  by_cases c : b.1 i < Word.score (w i) (p i) <;> simp [Ideal.cmp, Scalar.select, c]

/-- The value picked at an index is the choice among the four values there. -/
theorem pick_apply (w : Words) (p₀ p₁ p₂ p₃ : FVec Ideal S128x112 .f32) (i : S128x112.Idx) :
    pick w p₀ p₁ p₂ p₃ i = Word.chosen (w i) ![p₀ i, p₁ i, p₂ i, p₃ i] := by
  have h : addf p₀ (noise (bits w)) i = Word.score (w i + 0#32) (p₀ i) := by
    show p₀ i + noise (F := Ideal) (bits w) i = _
    rw [noise_apply, bits_apply, BitVec.add_zero]; rfl
  have h' : ((addf p₀ (noise (bits w)), p₀).1 i, (addf p₀ (noise (bits w)), p₀).2 i) = (Word.score (w i + 0#32) (p₀ i), p₀ i) :=
    Prod.ext h rfl
  exact congrArg Prod.snd ((better_at p₃ _ _ i).trans (congrArg (Word.better _ _) ((better_at p₂ _ _ i).trans
    (congrArg (Word.better _ _) ((better_at p₁ _ _ i).trans (congrArg (Word.better _ _) h'))))))

/-! ## The counter -/

/-- The counter at image `r` and column `c` of row `j` of a block, as the candidates' number. -/
theorem rowBase_apply (i : grid0.Coords) (j : Nat) (x : S128x112.Idx) :
    rowBase i (BitVec.ofNat 32 j) x
      = BitVec.ofNat 32 (50176 * (128 * (i 0).val + (x 0).val) + 448 * (16 * (i 1).val + j) + 4 * (x 1).val) := by
  have e : IntOp.shli .vector (BitVec.ofNat 32 (x 1).val) 2#32 = BitVec.ofNat 32 (x 1).val * BitVec.ofNat 32 4 := by
    rw [IntOp.shli, if_pos (by decide)]
    exact BitVec.shiftLeft_eq_mul_twoPow ..
  have h : rowBase i (BitVec.ofNat 32 j) x
      = ((BitVec.ofNat 32 (i 0).val * BitVec.ofNat 32 128 + iota .tc S128x112 32 [0] iota_S128x112_d0_w32 x) * BitVec.ofNat 32 50176
          + IntOp.shli .vector (iota .tc S128x112 32 [1] iota_S128x112_d1_w32 x) 2#32)
        + ((BitVec.ofNat 32 (i 1).val * BitVec.ofNat 32 16 + BitVec.ofNat 32 j) * BitVec.ofNat 32 112) * BitVec.ofNat 32 4 := rfl
  rw [h, iota_single_apply, iota_single_apply, e]
  simp only [← BitVec.ofNat_mul, ← BitVec.ofNat_add]
  congr 1
  ring

/-! ## The selection -/

/-- A row times a matrix at an index is the sum over the row's entries. -/
theorem product_apply (s : Vec Ideal S224x256 .f32) (x : Vec Ideal S128x1x224 .f32) (r : Fin 128) (c : Fin 256) :
    product (F := Ideal) s x (ix2 r c) = ∑ k : Fin 224, (x (ix3 r 0 k) : EReal) * (s (ix2 k c) : EReal) := by
  unfold product
  pointwise

/-- The selection matrix: column `c` below 112 picks the entry `2 c` of a row, column `128 + c` the entry `2 c + 1`. -/
def sel : FVec Ideal S224x256 .f32 :=
  uitofp .f32 (ori
    (cmpi .eq (iotaInDim S224x256 32 0) (muli (broadcastInDim S224x256 ![] bcast_S_S224x256 (constantI S_ 32 2#32)) (iotaInDim S224x256 32 1)))
    (cmpi .eq (iotaInDim S224x256 32 0) (subi
      (muli (broadcastInDim S224x256 ![] bcast_S_S224x256 (constantI S_ 32 2#32)) (iotaInDim S224x256 32 1))
      (broadcastInDim S224x256 ![] bcast_S_S224x256 (constantI S_ 32 255#32)))))

/-- An entry of the matrix is one where its row is the column's double, or the column's double less 255, and zero elsewhere. -/
theorem sel_apply (k : Fin 224) (c : Fin 256) :
    sel (ix2 k c) = if k.val = 2 * c.val ∨ k.val + 255 = 2 * c.val then 1 else 0 := by
  have h : sel (ix2 k c) = (((BitVec.ofBool (BitVec.ofNat 32 k.val == 2#32 * BitVec.ofNat 32 c.val)
      ||| BitVec.ofBool (BitVec.ofNat 32 k.val == 2#32 * BitVec.ofNat 32 c.val - 255#32)).toNat : ℝ) : EReal) := rfl
  have hk := k.isLt
  have hc := c.isLt
  have e₁ : (BitVec.ofNat 32 k.val == 2#32 * BitVec.ofNat 32 c.val) = decide (k.val = 2 * c.val) := by
    rw [Bool.beq_eq_decide_eq]
    refine decide_eq_decide.2 ⟨fun e => ?_, fun e => ?_⟩
    · have := congrArg BitVec.toNat e; simp at this; omega
    · apply BitVec.eq_of_toNat_eq; simp; omega
  have e₂ : (BitVec.ofNat 32 k.val == 2#32 * BitVec.ofNat 32 c.val - 255#32) = decide (k.val + 255 = 2 * c.val) := by
    rw [Bool.beq_eq_decide_eq]
    refine decide_eq_decide.2 ⟨fun e => ?_, fun e => ?_⟩
    · have := congrArg BitVec.toNat e; simp at this; omega
    · apply BitVec.eq_of_toNat_eq; simp; omega
  rw [h, e₁, e₂]
  by_cases a : k.val = 2 * c.val <;> by_cases b : k.val + 255 = 2 * c.val <;> simp [a, b]

/-- A row times one column of the matrix is the entry the column picks. -/
theorem product_sel (x : Vec Ideal S128x1x224 .f32) (r : Fin 128) (c : Fin 256) (k : Fin 224)
    (h : ∀ l : Fin 224, (l.val = 2 * c.val ∨ l.val + 255 = 2 * c.val) ↔ l = k) : product (F := Ideal) sel x (ix2 r c) = x (ix3 r 0 k) := by
  rw [product_apply, Finset.sum_eq_single k]
  · rw [sel_apply, if_pos ((h k).2 rfl), mul_one]
  · intro l _ hl
    rw [sel_apply, if_neg fun e => hl ((h l).1 e), mul_zero]
  · exact fun e => absurd (Finset.mem_univ k) e

/-- The first columns of the product are a row's even entries. -/
theorem evens_apply (x : Vec Ideal S128x1x224 .f32) (r : Fin 128) (w : Fin 112) :
    evens (F := Ideal) sel x (ix2 r w) = x (ix3 r 0 ⟨2 * w.val, by omega⟩) := by
  rw [evens, extractStridedSlice_apply _ _ _ _ (ix2 r ⟨w.val, by omega⟩) (fun a => by fin_cases a <;> simp [ix2])]
  exact product_sel x r _ _ fun l => by rw [Fin.ext_iff]; dsimp only; omega

/-- The columns from 128 on are its odd entries. -/
theorem odds_apply (x : Vec Ideal S128x1x224 .f32) (r : Fin 128) (w : Fin 112) :
    odds (F := Ideal) sel x (ix2 r w) = x (ix3 r 0 ⟨2 * w.val + 1, by omega⟩) := by
  rw [odds, extractStridedSlice_apply _ _ _ _ (ix2 r ⟨128 + w.val, by omega⟩) (fun a => by fin_cases a <;> simp [ix2])]
  exact product_sel x r _ _ fun l => by rw [Fin.ext_iff]; dsimp only; omega

/-! ## The stored row -/

/-- What row `j` of a block stores at image `r` and column `w`, from the two input rows. -/
theorem stored_apply (i : grid0.Coords) (j : Nat) (x y : Vec Ideal S128x1x224 .f32) (r : Fin 128) (w : Fin 112) :
    stored (F := Ideal) i (BitVec.ofNat 32 j) sel x y (ix3 r 0 w)
      = Word.chosen (BitVec.ofNat 32 (50176 * (128 * (i 0).val + r.val) + 448 * (16 * (i 1).val + j) + 4 * w.val))
          ![x (ix3 r 0 ⟨2 * w.val, by omega⟩), x (ix3 r 0 ⟨2 * w.val + 1, by omega⟩),
            y (ix3 r 0 ⟨2 * w.val, by omega⟩), y (ix3 r 0 ⟨2 * w.val + 1, by omega⟩)] := by
  rw [stored, shapeCast_apply _ _ _ (ix2 r w) (by rw [Shape.rowMajor_val_two, Shape.rowMajor_val_three]; simp [ix2, ix3]), pick_apply,
    rowBase_apply, evens_apply, odds_apply, evens_apply, odds_apply]
  rfl

end Cert.KernelIdeal.Row

end
-- ==== Proof.BlockValue.lean ====
/-
  What the kernel leaves in a whole block of its output, read at an index.
-/
module

public import proofs.«01_k».proof.Proof.RowValue

@[expose] public section

noncomputable section

namespace Cert.KernelIdeal.Row

open Idealize.ShloMosaic Cert.KernelIdeal Cert.KernelIdeal.Gen

/-- The four values of a block's input under an output's image, row and column. -/
def under (x : Vec Ideal S128x32x224 .f32) (r : Fin 128) (j : Fin 16) (w : Fin 112) : Fin 4 → EReal :=
  ![x (ix3 r ⟨2 * j.val, by omega⟩ ⟨2 * w.val, by omega⟩), x (ix3 r ⟨2 * j.val, by omega⟩ ⟨2 * w.val + 1, by omega⟩),
    x (ix3 r ⟨2 * j.val + 1, by omega⟩ ⟨2 * w.val, by omega⟩), x (ix3 r ⟨2 * j.val + 1, by omega⟩ ⟨2 * w.val + 1, by omega⟩)]

/-- The output of block `i` as one array: the choice among the four values under each index. -/
def block (i : grid0.Coords) (x : Vec Ideal S128x32x224 .f32) : Vec Ideal S128x16x112 .f32 := fun y =>
  Word.chosen (BitVec.ofNat 32 (50176 * (128 * (i 0).val + (y 0).val) + 448 * (16 * (i 1).val + (y 1).val) + 4 * (y 2).val))
    (under x (y 0) (y 1) (y 2))

/-- Row `j`'s store holds that array's row `j`. -/
theorem piece (i : grid0.Coords) (x : Vec Ideal S128x32x224 .f32) (j : Fin 16)
    (h₀ : ∀ a, (![0, 2 * j.val, 0] : Fin 3 → Nat) a + S128x1x224.size a ≤ S128x32x224.size a)
    (h₁ : ∀ a, (![0, 2 * j.val + 1, 0] : Fin 3 → Nat) a + S128x1x224.size a ≤ S128x32x224.size a)
    (h : ∀ a, (![0, j.val, 0] : Fin 3 → Nat) a + S128x1x112.size a ≤ S128x16x112.size a) (y : S128x1x112.Idx) :
    stored (F := Ideal) i (BitVec.ofNat 32 j.val) sel (View.ld x (Rect.unit (s := S128x32x224) ![0, 2 * j.val, 0] S128x1x224.size h₀))
      (View.ld x (Rect.unit (s := S128x32x224) ![0, 2 * j.val + 1, 0] S128x1x224.size h₁)) y
      = block i x ((Rect.unit (s := S128x16x112) ![0, j.val, 0] S128x1x112.size h).emb y) := by
  obtain ⟨r, w, rfl⟩ : ∃ (r : Fin 128) (w : Fin 112), y = ix3 r 0 w := ⟨y 0, y 2, by
    funext a; fin_cases a
    · rfl
    · exact Fin.ext (Nat.lt_one_iff.1 (y 1).isLt)
    · rfl⟩
  have e₀ : (Rect.unit (s := S128x16x112) ![0, j.val, 0] S128x1x112.size h).emb (ix3 r (0 : Fin 1) w) = ix3 r j w := by
    funext a; apply Fin.ext; fin_cases a
    · show 0 + 1 * r.val = r.val; omega
    · show j.val + 1 * 0 = j.val; omega
    · show 0 + 1 * w.val = w.val; omega
  have l (q : Nat) (hq : q < 32) (g : ∀ a, (![0, q, 0] : Fin 3 → Nat) a + S128x1x224.size a ≤ S128x32x224.size a) (k : Fin 224) :
      View.ld x (Rect.unit (s := S128x32x224) ![0, q, 0] S128x1x224.size g) (ix3 r (0 : Fin 1) k) = x (ix3 r ⟨q, hq⟩ k) := by
    refine congrArg x (funext fun a => Fin.ext ?_)
    fin_cases a
    · show 0 + 1 * r.val = r.val; omega
    · show q + 1 * 0 = q; omega
    · show 0 + 1 * k.val = k.val; omega
  rw [e₀, stored_apply, l _ (by omega), l _ (by omega), l _ (by omega), l _ (by omega)]
  rfl

/-- The offset of two zeros is zero on each axis. -/
theorem zero_offset : (![0, 0] : Fin 2 → Nat) = fun _ => 0 := funext fun a => by fin_cases a <;> rfl

/-- The body leaves that array in the output's block, where its second operand is the selection matrix. -/
theorem out_apply (i : grid0.Coords) (x : Vec Ideal S128x32x224 .f32) : out0_2 (F := Ideal) i x sel = block i x := by
  funext y
  rw [out_eq, View.ld_unit_zero zero_offset]
  refine View.canon_apply_of_pieces (block i x) _ ?_ y (cover0_2 _ _ _ _ _ _ _ _ _ _ _ _ _ _ _ _ y)
  simp only [List.forall_mem_cons]
  exact ⟨piece i x 15 _ _ _, piece i x 14 _ _ _, piece i x 13 _ _ _, piece i x 12 _ _ _, piece i x 11 _ _ _, piece i x 10 _ _ _,
    piece i x 9 _ _ _, piece i x 8 _ _ _, piece i x 7 _ _ _, piece i x 6 _ _ _, piece i x 5 _ _ _, piece i x 4 _ _ _,
    piece i x 3 _ _ _, piece i x 2 _ _ _, piece i x 1 _ _ _, piece i x 0 _ _ _, fun _ h => nomatch h⟩

end Cert.KernelIdeal.Row

end
-- ==== Proof.ArrayValue.lean ====
/-
  The kernel's run: what its result array holds at the end, as a function of its argument array.
-/
module

public import proofs.«01_k».proof.Proof.BlockValue
public import Idealize.ShloMosaic.Lib.Pipeline.ValueKit
public import Idealize.ShloMosaic.Lib.StableHlo.RunClose

@[expose] public section

noncomputable section

namespace Cert.KernelIdeal.Result

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The images one after another. -/
def images (x : Vec Ideal S16x384x224x224 .f32) : Vec Ideal S6144x224x224 .f32 :=
  shapeCast S6144x224x224 x shapeCasts_S16x384x224x224_S6144x224x224

/-- The four values of the images under an output's image, row and column. -/
def under (x : Vec Ideal S6144x224x224 .f32) (r : Fin 6144) (j : Fin 112) (w : Fin 112) : Fin 4 → EReal :=
  ![x (ix3 r ⟨2 * j.val, by omega⟩ ⟨2 * w.val, by omega⟩), x (ix3 r ⟨2 * j.val, by omega⟩ ⟨2 * w.val + 1, by omega⟩),
    x (ix3 r ⟨2 * j.val + 1, by omega⟩ ⟨2 * w.val, by omega⟩), x (ix3 r ⟨2 * j.val + 1, by omega⟩ ⟨2 * w.val + 1, by omega⟩)]

/-- The output images: the choice among the four values under each index. -/
def pooled (x : Vec Ideal S6144x224x224 .f32) : Vec Ideal S6144x112x112 .f32 := fun y =>
  Word.chosen (BitVec.ofNat 32 (50176 * (y 0).val + 448 * (y 1).val + 4 * (y 2).val)) (under x (y 0) (y 1) (y 2))

/-- The region finds the images in its first array … -/
theorem V_images (c : Dev nD) : V m c main_v0 = images (m ((c : Thread nD τ).loc main_arg0)) := by
  show StableHlo.after (List.flatten [hostOps0]) (fun b => m (c, b)) (Proc.devRef .tc main_v0) = _
  simp only [hostOps0, List.flatten_cons, List.flatten_nil, List.append_nil]
  after_results_simp
  rfl

/-- … and the selection matrix in its second. -/
theorem V_sel (c : Dev nD) : V m c main_v12 = Row.sel := by
  show StableHlo.after (List.flatten [hostOps0]) (fun b => m (c, b)) (Proc.devRef .tc main_v12) = _
  simp only [hostOps0, List.flatten_cons, List.flatten_nil, List.append_nil]
  after_results_simp
  rfl

/-- Each point's block of the second array is the whole selection matrix. -/
theorem iblk_sel (c : Dev nD) (t : Fin cfg0.N) : iblk m c 1 t = Row.sel := by
  funext y
  have e : ((cfg0.win 1).blk t).view.emb y = y := by
    funext a; apply Fin.ext
    blk_simp
    fin_cases a <;> exact Nat.zero_add _
  exact (congrFun (V_sel m c) _).trans (congrArg Row.sel e)

/-- A grid coordinate as a word is itself. -/
theorem coord_word (t : Fin cfg0.N) (a : Fin 2) : (BitVec.ofNat 32 (grid0.coords t a).val).toNat = (grid0.coords t a).val := by
  have h : (grid0.coords t a).val < 48 := lt_of_lt_of_le (grid0.coords t a).isLt (by fin_cases a <;> decide)
  rw [BitVec.toNat_ofNat]
  omega

/-- Where the first array's block at a point lies. -/
theorem index_in (t : Fin cfg0.N) : win0_0.index t = ![(grid0.coords t 0).val, (grid0.coords t 1).val, 0] := by
  show cc0_transform_0 (grid0.coords t) = _
  rw [cc0_transform_0, coord_word, coord_word]
  rfl

/-- Where the result array's block at a point lies. -/
theorem index_out (t : Fin cfg0.N) : win0_2.index t = ![(grid0.coords t 0).val, (grid0.coords t 1).val, 0] := by
  show cc0_transform_2 (grid0.coords t) = _
  rw [cc0_transform_2, coord_word, coord_word]
  rfl

/-- A point's block of the images, read at an index. -/
theorem iblk_images (c : Dev nD) (t : Fin cfg0.N) (r : Fin 128) (q : Fin 32) (k : Fin 224) (R : Fin 6144) (Q : Fin 224)
    (hR : R.val = 128 * (grid0.coords t 0).val + r.val) (hQ : Q.val = 32 * (grid0.coords t 1).val + q.val) :
    iblk m c 0 t (ix3 r q k) = images (m ((c : Thread nD τ).loc main_arg0)) (ix3 R Q k) := by
  have e : ((cfg0.win 0).blk t).view.emb (ix3 r q k) = ix3 R Q k := by
    funext a; apply Fin.ext
    blk_simp [index_in]
    fin_cases a
    · show (grid0.coords t 0).val * 128 + r.val = R.val; omega
    · show (grid0.coords t 1).val * 32 + q.val = Q.val; omega
    · show 0 * 224 + k.val = k.val; omega
  exact (congrFun (V_images m c) _).trans (congrArg (images (m ((c : Thread nD τ).loc main_arg0))) e)

/-- The region leaves the output images in its result array. -/
theorem arr_out (c : Dev nD) : (dats m 0 c).arrAt 2 cfg0.N = pooled (images (m ((c : Thread nD τ).loc main_arg0))) := by
  refine (dats m 0 c).arrAt_eq_of_covers 2 _ (by decide +kernel) fun t hf y => ?_
  blk_simp
  rw [after0_2, iblk_sel, Row.out_apply]
  obtain ⟨r, j, w, rfl⟩ : ∃ (r : Fin 128) (j : Fin 16) (w : Fin 112), y = ix3 r j w := ⟨y 0, y 1, y 2, by
    funext a; fin_cases a <;> rfl⟩
  have h₀ : (grid0.coords t 0).val < 48 := (grid0.coords t 0).isLt
  have h₁ : (grid0.coords t 1).val < 7 := (grid0.coords t 1).isLt
  have e : (win0_2.blk t).view.emb (ix3 r j w) = ix3 (n0 := 6144) (n1 := 112) (n2 := 112)
      ⟨128 * (grid0.coords t 0).val + r.val, by omega⟩ ⟨16 * (grid0.coords t 1).val + j.val, by omega⟩ w := by
    funext a; apply Fin.ext
    blk_simp [index_out]
    fin_cases a
    · show (grid0.coords t 0).val * 128 + r.val = 128 * (grid0.coords t 0).val + r.val; omega
    · show (grid0.coords t 1).val * 16 + j.val = 16 * (grid0.coords t 1).val + j.val; omega
    · show 0 * 112 + w.val = w.val; omega
  rw [e]
  refine congrArg (Word.chosen _) ?_
  show Row.under (iblk m c 0 t) r j w = under (images (m ((c : Thread nD τ).loc main_arg0))) _ _ w
  unfold Row.under under
  have at' (q : Fin 32) (k : Fin 224) := iblk_images m c t r q k ⟨128 * (grid0.coords t 0).val + r.val, by omega⟩
    ⟨32 * (grid0.coords t 1).val + q.val, by omega⟩ rfl rfl
  have even : 32 * (grid0.coords t 1).val + 2 * j.val = 2 * (16 * (grid0.coords t 1).val + j.val) := by omega
  have odd : 32 * (grid0.coords t 1).val + (2 * j.val + 1) = 2 * (16 * (grid0.coords t 1).val + j.val) + 1 := by omega
  simp only [at', even, odd]
  rfl

/-- What the kernel's result holds, from its argument. -/
def result (x : Vec Ideal S16x384x224x224 .f32) : Vec Ideal S16x384x112x112 .f32 :=
  shapeCast S16x384x112x112 (pooled (images x)) shapeCasts_S6144x112x112_S16x384x112x112

/-- The reshape after the region leaves the result. -/
theorem tail_out (c : Dev nD) :
    Pipeline.afterTail₀ cfgs (dats m) 0 (V0 m) [hostOps1] c main_v14 = result (m ((c : Thread nD τ).loc main_arg0)) := by
  unfold Pipeline.afterTail₀
  simp only [hostOps1, List.flatten_cons, List.flatten_nil, List.append_nil]
  after_results_simp
  exact congrArg (fun z => shapeCast S16x384x112x112 z shapeCasts_S6144x112x112_S16x384x112x112)
    ((Pipeline.withArrays_arr spec0 (by decide) c (V0 m c) (fun w => (dats m 0 c).arrAt w cfg0.N) 2).trans (arr_out m c))

/-- Every run ends with the result array at that value, and the argument array unchanged. -/
theorem run : θ_run defs (onTc (τ := τ) (main (F := Ideal))) ⟨m, fun _ => 0, ρ⟩ fun r => ∀ c : Dev nD,
      r.2.mem ((c.tc : Thread nD τ).loc main_v14) = result (m ((c.tc : Thread nD τ).loc main_arg0))
      ∧ r.2.mem ((c.tc : Thread nD τ).loc main_arg0) = m ((c.tc : Thread nD τ).loc main_arg0) :=
  (θ_run defs _ _).mono (fun _ h c => ⟨((h c).2 main_v14 (Pipeline.mem_restRefs_of main_v14 (by decide) (by decide))).trans (tail_out m c),
      ((h c).2 main_arg0 (Pipeline.mem_restRefs_of main_arg0 (by decide) (by decide))).trans (W_main_arg0 m (dats m) c)⟩) (run_main m ρ)

end Cert.KernelIdeal.Result

end
-- ==== Proof.RefBits.lean ====
/-
  The reference's random bits at a candidate: those of the candidate's position.
-/
module

public import proofs.«01_k».proof.Proof.RefRead
public import proofs.«01_k».proof.Proof.Word
public import Idealize.ShloMosaic.Lib.Pipeline.Value
public import Idealize.ShloMosaic.Lib.Pointwise

@[expose] public section

noncomputable section

namespace Cert.ReferenceIdeal.Line

open Idealize.ShloMosaic Cert.ReferenceIdeal Cert.ReferenceIdeal.Gen

/-! ## The generator -/

/-- The two words at a candidate. -/
def at' (s : V5 × V5) (i : S16x384x112x112x4.Idx) : Word.W × Word.W := (s.1 i, s.2 i)

/-- A turned word at a candidate is the turned word there. -/
theorem turn_apply (v : V5) (l r : BitVec 32) (hl : l.toNat < 32) (hr : r.toNat < 32) (i : S16x384x112x112x4.Idx) :
    turn v l r i = Word.turn (v i) l r := by
  show IntOp.ori (IntOp.shli .host (v i) l) (IntOp.shrui .host (v i) r) = _
  rw [IntOp.shli, IntOp.shrui, if_pos hl, if_pos hr]
  rfl

/-- One round at a candidate is that round of the words there. -/
theorem round_at (l r : BitVec 32) (hl : l.toNat < 32) (hr : r.toNat < 32) (s : V5 × V5) (i : S16x384x112x112x4.Idx) :
    at' (round l r s) i = Word.round l r (at' s i) :=
  Prod.ext rfl (congrArg ((s.1 i + s.2 i) ^^^ ·) (turn_apply s.2 l r hl hr i))

/-- The first schedule at a candidate is that of the words there. -/
theorem roundsA_at (s : V5 × V5) (i : S16x384x112x112x4.Idx) : at' (roundsA s) i = Word.roundsA (at' s i) := by
  rw [roundsA, round_at _ _ (by decide) (by decide), round_at _ _ (by decide) (by decide), round_at _ _ (by decide) (by decide),
    round_at _ _ (by decide) (by decide)]
  rfl

/-- The second schedule at a candidate is that of the words there. -/
theorem roundsB_at (s : V5 × V5) (i : S16x384x112x112x4.Idx) : at' (roundsB s) i = Word.roundsB (at' s i) := by
  rw [roundsB, round_at _ _ (by decide) (by decide), round_at _ _ (by decide) (by decide), round_at _ _ (by decide) (by decide),
    round_at _ _ (by decide) (by decide)]
  rfl

/-- A word at every candidate is that word. -/
theorem splat_apply (k : IVec S_ 32) (a : BitVec 32) (hk : ∀ z, k z = a) (i : S16x384x112x112x4.Idx) : splat k i = a := hk _

/-- Adding the key words at a candidate is adding them to the words there. -/
theorem inject_at (k k' : IVec S_ 32) (a a' g : BitVec 32) (hk : ∀ z, k z = a) (hk' : ∀ z, k' z = a') (s : V5 × V5)
    (i : S16x384x112x112x4.Idx) : at' (inject k k' g s) i = Word.inject a (a' + g) (at' s i) := by
  have e₁ : s.1 i + splat k i = s.1 i + a := congrArg (s.1 i + ·) (splat_apply k a hk i)
  have e₂ : s.2 i + splat k' i + g = s.2 i + (a' + g) := by rw [splat_apply k' a' hk' i, BitVec.add_assoc]
  exact Prod.ext e₁ e₂

/-- The third key word is that of the first two. -/
theorem thirdKey_apply (k₀ k₁ : IVec S_ 32) (a₀ a₁ : BitVec 32) (h₀ : ∀ z, k₀ z = a₀) (h₁ : ∀ z, k₁ z = a₁) (z : S_.Idx) :
    thirdKey k₀ k₁ z = Word.thirdKey a₀ a₁ := by
  show k₀ z ^^^ k₁ z ^^^ 466688986#32 = _
  rw [h₀, h₁]; rfl

/-- The generator at a candidate is that of the words there. -/
theorem threefry_at (k₀ k₁ : IVec S_ 32) (a₀ a₁ : BitVec 32) (h₀ : ∀ z, k₀ z = a₀) (h₁ : ∀ z, k₁ z = a₁) (hi lo : V5)
    (i : S16x384x112x112x4.Idx) : at' (threefry k₀ k₁ hi lo) i = Word.threefry a₀ a₁ (hi i) (lo i) := by
  have h₂ := thirdKey_apply k₀ k₁ a₀ a₁ h₀ h₁
  have e : at' (addi hi (splat k₀), addi lo (splat k₁)) i = (hi i + a₀, lo i + a₁) :=
    Prod.ext (congrArg (hi i + ·) (splat_apply k₀ a₀ h₀ i)) (congrArg (lo i + ·) (splat_apply k₁ a₁ h₁ i))
  rw [threefry, inject_at _ _ _ _ _ h₂ h₀, roundsA_at, inject_at _ _ _ _ _ h₁ h₂, roundsB_at, inject_at _ _ _ _ _ h₀ h₁, roundsA_at,
    inject_at _ _ _ _ _ h₂ h₀, roundsB_at, inject_at _ _ _ _ _ h₁ h₂, roundsA_at, e]
  rfl

/-! ## The key -/

/-- A shape of one element turned to a scalar, read at its index. -/
theorem scalar_apply (x : IVec S1 32) (z : S_.Idx) : shapeCast S_ x shapeCasts_S1_S_ z = x (ix1 0) := by
  obtain rfl : z = fun a => a.elim0 := by funext a; exact a.elim0
  exact shapeCast_apply _ _ _ (ix1 0) (by decide)

/-- The key's first word is 0. -/
theorem keyFst_apply (z : S_.Idx) : keyFst z = 0#32 := by
  rw [keyFst, scalar_apply, extractStridedSlice_apply ![0] _ _ (ix1 0) (ix1 0) (by decide), seed,
    concatenate_pair_apply_left (t := S2) (s₁ := S1) (s₂ := S1) 0 _ _ _ (ix1 0) rfl (ix1 0) (by decide)]
  show IntOp.shrui .host 42#32 32#32 = _
  rw [IntOp.shrui, if_neg (by decide)]
  rfl

/-- The key's second word is 42. -/
theorem keySnd_apply (z : S_.Idx) : keySnd z = 42#32 := by
  rw [keySnd, scalar_apply, extractStridedSlice_apply ![1] _ _ (ix1 0) (ix1 1) (by decide), seed,
    concatenate_pair_apply_right (t := S2) (s₁ := S1) (s₂ := S1) 0 _ _ _ (ix1 1) rfl rfl (ix1 0) (by decide) (by decide)]
  show 42#32 &&& 4294967295#32 = _
  decide

/-! ## The position -/

/-- A candidate's number in row-major order. -/
def number (i : S16x384x112x112x4.Idx) : Nat :=
  19267584 * (i 0).val + 50176 * (i 1).val + 448 * (i 2).val + 4 * (i 3).val + (i 4).val

/-- The number fits a word. -/
theorem number_lt (i : S16x384x112x112x4.Idx) : number i < 2 ^ 32 := by
  have h₀ : (i 0).val < 16 := (i 0).isLt
  have h₁ : (i 1).val < 384 := (i 1).isLt
  have h₂ : (i 2).val < 112 := (i 2).isLt
  have h₃ : (i 3).val < 112 := (i 3).isLt
  have h₄ : (i 4).val < 4 := (i 4).isLt
  unfold number; omega

/-- The position is that number. -/
theorem position_apply (i : S16x384x112x112x4.Idx) : position i = BitVec.ofNat 64 (number i) := by
  show 19267584#64 * BitVec.ofNat 64 (i 0).val + 50176#64 * BitVec.ofNat 64 (i 1).val + 448#64 * BitVec.ofNat 64 (i 2).val
    + 4#64 * BitVec.ofNat 64 (i 3).val + 1#64 * BitVec.ofNat 64 (i 4).val = _
  simp only [number, BitVec.ofNat_add, BitVec.ofNat_mul, BitVec.one_mul]

/-- Its high word is 0. -/
theorem positionHi_apply (i : S16x384x112x112x4.Idx) : positionHi i = 0#32 := by
  show (IntOp.shrui .host (position i) 32#64).setWidth 32 = _
  rw [IntOp.shrui, if_pos (by decide), position_apply]
  apply BitVec.eq_of_toNat_eq
  have h := number_lt i
  simp [Nat.shiftRight_eq_div_pow]
  omega

/-- Its low word is the number. -/
theorem positionLo_apply (i : S16x384x112x112x4.Idx) : positionLo i = BitVec.ofNat 32 (number i) := by
  show (position i).setWidth 32 = _
  rw [position_apply]
  apply BitVec.eq_of_toNat_eq
  simp

/-- The random bits at a candidate are those of its number. -/
theorem randomBits_apply (i : S16x384x112x112x4.Idx) : randomBits i = Word.drawn (BitVec.ofNat 32 (number i)) := by
  have h := threefry_at keyFst keySnd _ _ keyFst_apply keySnd_apply positionHi positionLo i
  rw [positionHi_apply, positionLo_apply] at h
  rw [Word.drawn, ← h]
  rfl

end Cert.ReferenceIdeal.Line

end
-- ==== Proof.RefScore.lean ====
/-
  The reference's candidates and their scores, read at an index.
-/
module

public import proofs.«01_k».proof.Proof.RefBits
public import Idealize.ShloMosaic.Lib.ValueIdxRank6
public import Idealize.ShloMosaic.Lib.IdealHost

@[expose] public section

noncomputable section

namespace Cert.ReferenceIdeal.Line

open Idealize.ShloMosaic Cert.ReferenceIdeal Cert.ReferenceIdeal.Gen

/-- The noise a uniform number gives at a candidate is that of the random bits there. -/
theorem scores_noise (b : V5) (p : FVec Ideal S16x384x112x112x4 .f32) (i : S16x384x112x112x4.Idx) :
    scores (uniform (bound 0x00000000#32) (bound 0x3F800000#32) b) p i = p i + Word.noise (b i) := by
  have e : IntOp.shrui .host (b i) 9#32 = b i >>> 9#32 := by rw [IntOp.shrui, if_pos (by decide)]
  show -Ideal.log (-Ideal.log (max (max (Ideal.ofBits .f32 0x00000000#32)
    ((Ideal.ofBits .f32 (IntOp.ori (IntOp.shrui .host (b i) 9#32) 1065353216#32) - Ideal.ofBits .f32 0x3F800000#32)
      * (Ideal.ofBits .f32 0x3F800000#32 - Ideal.ofBits .f32 0x00000000#32) + Ideal.ofBits .f32 0x00000000#32))
    Word.tiny)) + p i = _
  rw [e, Word.scaled, add_comm]
  rfl

/-- The score of a candidate is that of its number and value. -/
theorem scores_apply (p : FVec Ideal S16x384x112x112x4 .f32) (i : S16x384x112x112x4.Idx) :
    scores (uniform (bound 0x00000000#32) (bound 0x3F800000#32) randomBits) p i = Word.score (BitVec.ofNat 32 (number i)) (p i) := by
  rw [scores_noise, randomBits_apply]
  rfl

/-- Candidate `2a + d` of a region is the value at row `a` and column `d` of the two by two values under it. -/
theorem patches_apply (x : FVec Ideal S16x384x224x224 .f32) (b : Fin 16) (c : Fin 384) (h w : Fin 112) (a d : Fin 2) :
    patches x (ix5 b c h w (⟨2 * a.val + d.val, by omega⟩ : Fin 4))
      = x (ix4 b c (⟨2 * h.val + a.val, by omega⟩ : Fin 224) (⟨2 * w.val + d.val, by omega⟩ : Fin 224)) := by
  rw [patches, shapeCast_apply _ _ _ (ix6 b c h w a d) (by
    rw [Shape.rowMajor_val_six, Shape.rowMajor_val_five]
    show ((((b.val * 384 + c.val) * 112 + h.val) * 112 + w.val) * 2 + a.val) * 2 + d.val
      = (((b.val * 384 + c.val) * 112 + h.val) * 112 + w.val) * 4 + (2 * a.val + d.val)
    omega)]
  show shapeCast S16x384x112x2x112x2 x _ (ix6 b c h a w d) = _
  exact shapeCast_apply _ _ _ _ (by
    rw [Shape.rowMajor_val_six, Shape.rowMajor_val_four]
    show ((b.val * 384 + c.val) * 224 + (2 * h.val + a.val)) * 224 + (2 * w.val + d.val)
      = ((((b.val * 384 + c.val) * 112 + h.val) * 2 + a.val) * 112 + w.val) * 2 + d.val
    omega)

end Cert.ReferenceIdeal.Line

end
-- ==== Proof.RefPlace.lean ====
/-
  The place of a region's first greatest score, as the reference's reduction finds it.
-/
module

public import proofs.«01_k».proof.Proof.RefRead
public import proofs.«01_k».proof.Proof.Word
public import Idealize.ShloMosaic.PureOps.Reduce
public import Idealize.ShloMosaic.PureOps.Ideal.Laws
public import Idealize.ShloMosaic.Lib.IdealHost
public import Idealize.ShloMosaic.Lib.Pipeline.Value
public import Idealize.ShloMosaic.Lib.Pointwise

@[expose] public section

noncomputable section

namespace Cert.ReferenceIdeal.Line

open Idealize.ShloMosaic Cert.ReferenceIdeal Cert.ReferenceIdeal.Gen

/-- Candidate `k` of a region. -/
def cand (j : S16x384x112x112.Idx) (k : Fin 4) : S16x384x112x112x4.Idx := ix5 (j 0) (j 1) (j 2) (j 3) k

/-! ## The candidates of a region -/

/-- The candidates a region's reduction goes through are its four, in order. -/
theorem fiber_eq (j : S16x384x112x112.Idx) :
    (List.finRange S16x384x112x112x4.numel).filter
        (fun n => reducesTo_S16x384x112x112x4_S16x384x112x112_d4.drop (S16x384x112x112x4.rowMajor.symm n) = j)
      = (List.finRange 4).map fun k => S16x384x112x112x4.rowMajor (cand j k) := by
  refine List.Pairwise.eq_of_mem_iff (r := (· < ·)) ((List.pairwise_lt_finRange _).filter _) ?_ fun n => ?_
  · rw [List.pairwise_map]
    refine (List.pairwise_lt_finRange 4).imp fun {a b} h => ?_
    show (_ : Fin _).val < (_ : Fin _).val
    rw [Shape.rowMajor_val_five, Shape.rowMajor_val_five]
    exact Nat.add_lt_add_left h _
  · simp only [List.mem_filter, List.mem_finRange, true_and, decide_eq_true_eq, List.mem_map]
    constructor
    · rintro rfl
      refine ⟨S16x384x112x112x4.rowMajor.symm n 4, (Equiv.apply_eq_iff_eq_symm_apply _).2 ?_⟩
      funext a
      apply Fin.ext
      fin_cases a <;> rfl
    · rintro ⟨k, rfl⟩
      rw [Equiv.symm_apply_apply]
      funext a
      apply Fin.ext
      fin_cases a <;> rfl

/-- The reduction goes through a region's four candidates in order. -/
theorem reduce_four (f : EReal × BitVec 32 → EReal × BitVec 32 → EReal × BitVec 32) (x : S16x384x112x112x4.Idx → EReal) (y : S16x384x112x112x4.Idx → BitVec 32)
    (ix : S_.Idx → EReal) (iy : S_.Idx → BitVec 32) (j : S16x384x112x112.Idx) :
    Host.reduce2 f x y ix iy reducesTo_S16x384x112x112x4_S16x384x112x112_d4 h_S_ j
      = (List.finRange 4).foldl (fun r k => f r (x (cand j k), y (cand j k))) (ix (Shape.Idx.first h_S_), iy (Shape.Idx.first h_S_)) := by
  refine (congrArg (List.foldl _ _) (fiber_eq j)).trans ?_
  rw [List.foldl_map]
  simp only [Equiv.symm_apply_apply]

/-! ## The best of four -/

/-- The best score so far and its place, after the candidate at `k`. -/
def bestStep (s : Fin 4 → EReal) (k : Fin 4) (b : EReal × Fin 4) : EReal × Fin 4 := if b.1 < s k then (s k, k) else b

/-- The first greatest of four scores and its place. -/
def best (s : Fin 4 → EReal) : EReal × Fin 4 := bestStep s 3 (bestStep s 2 (bestStep s 1 (s 0, 0)))

/-- The choice of a value by the scores is the value at that place. -/
theorem first_eq (s p : Fin 4 → EReal) : Word.first s p = p (best s).2 := by
  have step (k : Fin 4) (b : EReal × Fin 4) :
      Word.better (s k) (p k) (b.1, p b.2) = ((bestStep s k b).1, p (bestStep s k b).2) := by
    unfold Word.better bestStep
    split_ifs <;> rfl
  rw [Word.first, show ((s 0, p 0) : EReal × EReal) = (((s 0, 0) : EReal × Fin 4).1, p ((s 0, 0) : EReal × Fin 4).2) from rfl,
    step, step, step]
  rfl

/-- The place so far is before the next candidate. -/
theorem bestStep_lt (s : Fin 4 → EReal) (k : Fin 4) (b : EReal × Fin 4) (h : b.2 < k) : (bestStep s k b).2 ≤ k := by
  unfold bestStep
  split_ifs
  · exact le_refl _
  · exact h.le

/-- A score and its place as the reduction holds them. -/
def held (b : EReal × Fin 4) : EReal × BitVec 32 := (b.1, BitVec.ofNat 32 b.2.val)

/-- A place before another is before it as a word. -/
theorem place_slt : ∀ q k : Fin 4, q < k → IntOp.cmpi .slt (BitVec.ofNat 32 q.val) (BitVec.ofNat 32 k.val) = 1#1 := by decide

/-- One step of the reduction. -/
theorem reducer_step (s : Fin 4 → EReal) (k : Fin 4) (b : EReal × Fin 4) (h : b.2 < k) :
    reducer_argmax_f32_i32 (F := Ideal) (held b) (s k, BitVec.ofNat 32 k.val) = held (bestStep s k b) := by
  have c := place_slt b.2 k h
  unfold reducer_argmax_f32_i32 held bestStep
  simp only [Ideal.cmpf_def, c]
  rcases lt_trichotomy b.1 (s k) with l | l | l
  · simp [Ideal.cmp, Scalar.select, IntOp.ori, IntOp.andi, l, l.ne, l.not_gt]
  · simp [Ideal.cmp, Scalar.select, IntOp.ori, IntOp.andi, l]
  · simp [Ideal.cmp, Scalar.select, IntOp.ori, IntOp.andi, l, l.ne', l.not_gt]

/-- The first step, from the least number. -/
theorem reducer_start (a : EReal) : reducer_argmax_f32_i32 (F := Ideal) (⊥, 0#32) (a, 0#32) = held (a, 0) := by
  unfold reducer_argmax_f32_i32 held
  rcases eq_or_ne a ⊥ with rfl | h
  · simp [Ideal.cmpf_def, Ideal.cmp, Scalar.select, IntOp.ori, IntOp.andi]
  · simp [Ideal.cmpf_def, Ideal.cmp, Scalar.select, IntOp.ori, IntOp.andi, h]

/-- The four steps leave the first greatest score and its place. -/
theorem fold_best (s : Fin 4 → EReal) :
    (List.finRange 4).foldl (fun (r : EReal × BitVec 32) (k : Fin 4) =>
      reducer_argmax_f32_i32 (F := Ideal) r (s k, BitVec.ofNat 32 k.val)) (⊥, 0#32) = held (best s) := by
  have l : List.finRange 4 = [0, 1, 2, 3] := by decide
  have e₀ : reducer_argmax_f32_i32 (F := Ideal) (⊥, 0#32) (s 0, BitVec.ofNat 32 (0 : Fin 4).val) = held (s 0, 0) := reducer_start (s 0)
  have h₁ := bestStep_lt s 1 (s 0, 0) (show (0 : Fin 4) < 1 by decide)
  have h₂ := bestStep_lt s 2 _ (lt_of_le_of_lt h₁ (by decide))
  rw [l, List.foldl_cons, List.foldl_cons, List.foldl_cons, List.foldl_cons, List.foldl_nil, e₀, reducer_step s 1 _ (show (0 : Fin 4) < 1 by decide),
    reducer_step s 2 _ (lt_of_le_of_lt h₁ (by decide)), reducer_step s 3 _ (lt_of_le_of_lt h₂ (by decide))]
  rfl

/-- The least number, which the reduction starts from. -/
theorem least (z : S_.Idx) : constant (F := Ideal) S_ .f32 0xFF800000#32 z = (⊥ : EReal) := by
  show Ideal.ofBits .f32 0xFF800000#32 = ⊥
  simp [Ideal.ofBits, Ideal.ieee]

/-- The numbers of a region's candidates along the last axis. -/
theorem place_number (j : S16x384x112x112.Idx) (k : Fin 4) : iotaInDim S16x384x112x112x4 32 4 (cand j k) = BitVec.ofNat 32 k.val := rfl

/-- The second components of pairs. -/
def seconds {ι α β : Type} (f : ι → α × β) : ι → β := fun j => (f j).2

/-- The second components at an index are the second component there. -/
theorem seconds_apply {ι α β : Type} (f : ι → α × β) (j : ι) (b : α × β) (h : f j = b) : seconds f j = b.2 := congrArg Prod.snd h

/-- The places are the second components of what the reduction leaves. -/
theorem place_eq (s : FVec Ideal S16x384x112x112x4 .f32) :
    place s = seconds (Host.argReduce reducer_argmax_f32_i32 s (iotaInDim S16x384x112x112x4 32 4) (constant S_ .f32 0xFF800000#32)
      (constantI S_ 32 0#32) reducesTo_S16x384x112x112x4_S16x384x112x112_d4 h_S_) := rfl

/-- The reduction finds the place of a region's first greatest score. -/
theorem place_apply (s : FVec Ideal S16x384x112x112x4 .f32) (j : S16x384x112x112.Idx) :
    place s j = BitVec.ofNat 32 (best fun k => s (cand j k)).2.val := by
  have h := reduce_four (reducer_argmax_f32_i32 (F := Ideal)) s (iotaInDim S16x384x112x112x4 32 4) (constant (F := Ideal) S_ .f32 0xFF800000#32)
    (constantI S_ 32 0#32) j
  simp only [place_number, least] at h
  rw [place_eq, Ideal.argReduce_eq_reduce2]
  exact seconds_apply _ _ _ (h.trans (fold_best fun k => s (cand j k)))

end Cert.ReferenceIdeal.Line

end
-- ==== Proof.RefTake.lean ====
/-
  The reference's reading of the candidates at given places.
-/
module

public import proofs.«01_k».proof.Proof.RefPlace
public import Idealize.ShloMosaic.Lib.ReduceAll
public import Idealize.ShloMosaic.Lib.ValueIdxRank6

@[expose] public section

noncomputable section

namespace Cert.ReferenceIdeal.Line

open Idealize.ShloMosaic Cert.ReferenceIdeal Cert.ReferenceIdeal.Gen

/-- The region of an index with unit axes. -/
def region (z : S16x384x112x112x1x1.Idx) : S16x384x112x112.Idx := ix4 (z 0) (z 1) (z 2) (z 3)

/-- A region's index with one unit axis. -/
def unitIdx (j : S16x384x112x112.Idx) : S16x384x112x112x1.Idx := ix5 (j 0) (j 1) (j 2) (j 3) 0

/-- No place among four is negative. -/
theorem place_not_neg : ∀ q : Fin 4, IntOp.cmpi .slt (BitVec.ofNat 32 q.val) 0#32 = 0#1 := by decide

/-- Places among four, with the unit axes, are themselves. -/
theorem place2_apply (i : IVec S16x384x112x112 32) (q : S16x384x112x112.Idx → Fin 4) (hq : ∀ j, i j = BitVec.ofNat 32 (q j).val)
    (z : S16x384x112x112x1x1.Idx) : place2 (place1 i) z = BitVec.ofNat 32 (q (region z)).val := by
  have e : place1 i (unitIdx (region z)) = BitVec.ofNat 32 (q (region z)).val := by
    rw [← hq]
    refine congrArg i ?_
    funext a
    fin_cases a <;> rfl
  rw [place2, shapeCast_apply _ _ z (unitIdx (region z)) (by
    have h₄ : (z 4).val < 1 := (z 4).isLt
    have h₅ : (z 5).val < 1 := (z 5).isLt
    rw [Shape.rowMajor_val_six, Shape.rowMajor_val_five]
    show (((((z 0).val * 384 + (z 1).val) * 112 + (z 2).val) * 112 + (z 3).val) * 1 + 0)
      = (((((z 0).val * 384 + (z 1).val) * 112 + (z 2).val) * 112 + (z 3).val) * 1 + (z 4).val) * 1 + (z 5).val
    omega)]
  show Scalar.select (IntOp.cmpi .slt (place1 i (unitIdx (region z))) 0#32) _ (place1 i (unitIdx (region z))) = _
  rw [e, place_not_neg]
  rfl

/-- Every place among four is in range. -/
theorem place_in_range : ∀ q : Fin 4,
    IntOp.andi (IntOp.cmpi .sge (BitVec.ofNat 32 q.val) 0#32) (IntOp.cmpi .sle (BitVec.ofNat 32 q.val) 3#32) = 1#1 := by decide

/-- Places among four pass the range test. -/
theorem inRange_apply (i : IVec S16x384x112x112x1x1 32) (q : S16x384x112x112.Idx → Fin 4)
    (hq : ∀ z, i z = BitVec.ofNat 32 (q (region z)).val) (y : S16x384x112x112x1.Idx) : inRange i y = 1#1 := by
  refine Host.reduce_andi_one _ _ _ _ _ rfl fun z => ?_
  show IntOp.andi (IntOp.cmpi .sge (i z) 0#32) (IntOp.cmpi .sle (i z) 3#32) = 1#1
  rw [hq]
  exact place_in_range _

/-- A place among four as a signed number kept among four is itself. -/
theorem place_start : ∀ q : Fin 4, min (BitVec.ofNat 32 q.val).toInt.toNat (4 - 1) = q.val := by decide

/-- The dimension numbers of the reading. -/
abbrev dims : GatherDims S16x384x112x112x4 S16x384x112x112x1x1 S16x384x112x112x1 :=
  gather_S16x384x112x112x4_S16x384x112x112x1x1_S16x384x112x112x1_n_4_0123_0123_4_5_11111

/-- What is read of the candidates for a region is the candidate at its place. -/
theorem gather_apply (p : FVec Ideal S16x384x112x112x4 .f32) (i : IVec S16x384x112x112x1x1 32) (q : S16x384x112x112.Idx → Fin 4)
    (hq : ∀ z, i z = BitVec.ofNat 32 (q (region z)).val) (j : S16x384x112x112.Idx) :
    Host.gather dims p i (unitIdx j) = p (cand j (q j)) := by
  refine congrArg p ?_
  funext a
  apply Fin.ext
  show dims.start _ i a + dims.batchCoord _ a + dims.offCoord _ a = _
  rw [dims.offCoord_eq_zero _ _ (by revert a; decide), Nat.add_zero]
  by_cases h : a ∈ dims.operandBatchingDims
  · rw [dims.start_batching _ _ _ h, Nat.zero_add]
    fin_cases a
    · rfl
    · rfl
    · rfl
    · rfl
    · exact absurd h (by decide)
  · rw [dims.batchCoord_eq_zero _ _ h, Nat.add_zero]
    obtain rfl : a = 4 := by revert a; decide
    rw [GatherDims.start, dif_pos (by decide), hq]
    have r : region (dims.siIdx (unitIdx j) ⟨0, by decide⟩) = j := by
      funext a
      fin_cases a <;> rfl
    exact (place_start _).trans (congrArg (fun j => (q j).val) r)

/-- A choice on a true bit is the first. -/
theorem select_one {α : Type} (a b : α) : Scalar.select 1#1 a b = a := if_pos rfl

/-- The candidate at a region's place is what is taken. -/
theorem taken_apply (p : FVec Ideal S16x384x112x112x4 .f32) (i : IVec S16x384x112x112x1x1 32) (q : S16x384x112x112.Idx → Fin 4)
    (hq : ∀ z, i z = BitVec.ofNat 32 (q (region z)).val) (j : S16x384x112x112.Idx) : taken p i (unitIdx j) = p (cand j (q j)) := by
  unfold taken
  show Scalar.select (inRange i (unitIdx j)) (Host.gather dims p i (unitIdx j)) (Ideal.ofBits .f32 0x7FC00000#32) = _
  rw [inRange_apply i q hq, gather_apply p i q hq, select_one]

/-- What is picked of a region is the candidate at the first greatest score's place. -/
theorem picked_apply (p s : FVec Ideal S16x384x112x112x4 .f32) (j : S16x384x112x112.Idx) :
    picked p s j = Word.first (fun k => s (cand j k)) (fun k => p (cand j k)) := by
  have h₂ := place2_apply (place s) _ (place_apply s)
  rw [first_eq, picked, shapeCast_apply _ _ j (unitIdx j) (by
    rw [Shape.rowMajor_val_five, Shape.rowMajor_val_four]
    exact (Nat.add_zero _).trans (Nat.mul_one _))]
  exact taken_apply p (place2 (place1 (place s))) (fun j => (best fun k => s (cand j k)).2) h₂ j

end Cert.ReferenceIdeal.Line

end
-- ==== Proof.RefValue.lean ====
/-
  The reference's result at an index: the choice among the four values under it.
-/
module

public import proofs.«01_k».proof.Proof.RefScore
public import proofs.«01_k».proof.Proof.RefTake

@[expose] public section

noncomputable section

namespace Cert.ReferenceIdeal.Line

open Idealize.ShloMosaic Cert.ReferenceIdeal Cert.ReferenceIdeal.Gen

/-- The four values under an index. -/
def under (x : FVec Ideal S16x384x224x224 .f32) (b : Fin 16) (c : Fin 384) (h w : Fin 112) : Fin 4 → EReal :=
  ![x (ix4 b c (⟨2 * h.val, by omega⟩ : Fin 224) (⟨2 * w.val, by omega⟩ : Fin 224)),
    x (ix4 b c (⟨2 * h.val, by omega⟩ : Fin 224) (⟨2 * w.val + 1, by omega⟩ : Fin 224)),
    x (ix4 b c (⟨2 * h.val + 1, by omega⟩ : Fin 224) (⟨2 * w.val, by omega⟩ : Fin 224)),
    x (ix4 b c (⟨2 * h.val + 1, by omega⟩ : Fin 224) (⟨2 * w.val + 1, by omega⟩ : Fin 224))]

/-- A region's candidates are the four values under its index. -/
theorem patches_cand (x : FVec Ideal S16x384x224x224 .f32) (b : Fin 16) (c : Fin 384) (h w : Fin 112) :
    (fun k => patches x (cand (ix4 b c h w) k)) = under x b c h w := by
  funext k
  fin_cases k
  · exact patches_apply x b c h w 0 0
  · exact patches_apply x b c h w 0 1
  · exact patches_apply x b c h w 1 0
  · exact patches_apply x b c h w 1 1

/-- The reference's result at an index. -/
theorem result_apply (x : FVec Ideal S16x384x224x224 .f32) (b : Fin 16) (c : Fin 384) (h w : Fin 112) :
    result x (ix4 b c h w)
      = Word.chosen (BitVec.ofNat 32 (19267584 * b.val + 50176 * c.val + 448 * h.val + 4 * w.val)) (under x b c h w) := by
  rw [result, picked_apply, patches_cand, Word.chosen]
  refine congrArg (fun s => Word.first s _) (funext fun k => ?_)
  rw [scores_apply, ← BitVec.ofNat_add]
  exact congrArg (Word.score _) (congrFun (patches_cand x b c h w) k)

end Cert.ReferenceIdeal.Line

end
-- ==== Proof.Equation.lean ====
/-
  The kernel's result and the reference's are the same array.
-/
module

public import proofs.«01_k».proof.Proof.ArrayValue
public import proofs.«01_k».proof.Proof.RefValue

@[expose] public section

noncomputable section

namespace Cert.Equation

open Idealize.ShloMosaic

/-- The images one after another, read at an index. -/
theorem images_apply (x : Vec Ideal Cert.KernelIdeal.S16x384x224x224 .f32) (b : Fin 16) (c : Fin 384) (q k : Fin 224) :
    Cert.KernelIdeal.Result.images x (ix3 (⟨384 * b.val + c.val, by omega⟩ : Fin 6144) q k) = x (ix4 b c q k) :=
  shapeCast_apply _ _ _ _ (by
    rw [Shape.rowMajor_val_four, Shape.rowMajor_val_three]
    show ((b.val * 384 + c.val) * 224 + q.val) * 224 + k.val = ((384 * b.val + c.val) * 224 + q.val) * 224 + k.val
    omega)

/-- The kernel's result at an index: the choice among the four values under it, by the numbers of the reference's candidates. -/
theorem kernel_apply (x : Vec Ideal Cert.KernelIdeal.S16x384x224x224 .f32) (b : Fin 16) (c : Fin 384) (h w : Fin 112) :
    Cert.KernelIdeal.Result.result x (ix4 b c h w)
      = Word.chosen (BitVec.ofNat 32 (19267584 * b.val + 50176 * c.val + 448 * h.val + 4 * w.val))
          (Cert.ReferenceIdeal.Line.under x b c h w) := by
  rw [Cert.KernelIdeal.Result.result, shapeCast_apply _ _ _ (ix3 (⟨384 * b.val + c.val, by omega⟩ : Fin 6144) h w) (by
    rw [Shape.rowMajor_val_four, Shape.rowMajor_val_three]
    show ((384 * b.val + c.val) * 112 + h.val) * 112 + w.val = ((b.val * 384 + c.val) * 112 + h.val) * 112 + w.val
    omega)]
  show Word.chosen (BitVec.ofNat 32 (50176 * (384 * b.val + c.val) + 448 * h.val + 4 * w.val))
    (Cert.KernelIdeal.Result.under (Cert.KernelIdeal.Result.images x) ⟨384 * b.val + c.val, by omega⟩ h w) = _
  rw [show 50176 * (384 * b.val + c.val) = 19267584 * b.val + 50176 * c.val by omega]
  refine congrArg (Word.chosen _) ?_
  unfold Cert.KernelIdeal.Result.under Cert.ReferenceIdeal.Line.under
  rw [images_apply, images_apply, images_apply, images_apply]

/-- The two results are equal. -/
theorem results_eq (x : Vec Ideal Cert.KernelIdeal.S16x384x224x224 .f32) :
    Cert.KernelIdeal.Result.result x = Cert.ReferenceIdeal.Line.result (F := Ideal) x := by
  funext y
  obtain ⟨b, c, h, w, rfl⟩ : ∃ (b : Fin 16) (c : Fin 384) (h w : Fin 112), y = ix4 b c h w := ⟨y 0, y 1, y 2, y 3, by
    funext a; fin_cases a <;> rfl⟩
  exact (kernel_apply x b c h w).trans (Cert.ReferenceIdeal.Line.result_apply x b c h w).symm

end Cert.Equation

end
-- ==== Proof.lean ====
/-
  The five claims put together: the program and its idealization run and leave their argument unchanged, so does the reference, the
  idealization is the program's own text, and the idealization and the reference end with equal results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem

/-- The reference runs, leaves its argument unchanged and has no counter raised at the end. -/
theorem reference : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Line.run (F := Ideal) m ρ)

/-- The kernel and the reference end with equal results. -/
theorem equal : algebraic_KernelIdeal_ReferenceIdeal (hKernelIdeal := Cert.KernelIdeal.Gen.facts)
    (hReferenceIdeal := Cert.ReferenceIdeal.Gen.facts) := fun m ρ m' ρ' _ agree =>
  ⟨fun c => Cert.KernelIdeal.Result.result (m ((c.tc : Thread Cert.KernelIdeal.nD Cert.KernelIdeal.τ).loc Cert.KernelIdeal.main_arg0)),
    Cert.KernelIdeal.Result.run m ρ,
    (θ_run Cert.ReferenceIdeal.defs _ _).mono (fun _ h c => ⟨(h c).1.trans
      ((congrArg (Cert.ReferenceIdeal.Line.result (F := Ideal)) (agree c)).trans (Cert.Equation.results_eq _).symm), (h c).2⟩)
      (Cert.ReferenceIdeal.Line.run (F := Ideal) m' ρ')⟩

/-- All five claims. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference, trivial, equal⟩

end Cert.Proof

end
